-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_router_finite [hPre_router_finite : Cert.Pre_router_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_router_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_router_finite [hPre_router_finite : Cert.Pre_router_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_router_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_router_finite [hKernel4Ideal : Cert.Kernel4Ideal.Facts] [hPre_router_finite : Cert.Pre_router_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_router_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_router_finite [hReference4Ideal : Cert.Reference4Ideal.Facts] [hPre_router_finite : Cert.Pre_router_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_router_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v19_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_router_finite [hKernel4Ideal : Cert.Kernel4Ideal.Facts] [hReference4Ideal : Cert.Reference4Ideal.Facts] [hPre_router_finite : Cert.Pre_router_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_router_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v19_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19_1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v79) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_tables_in_range : Cert.Pre_tables_in_range.Facts) (hPre_router_finite : Cert.Pre_router_finite.Facts),
    quiescent_Kernel (hKernel := hKernel) (hPre_tables_in_range := hPre_tables_in_range)
    ∧ quiescent_KernelIdeal (hKernelIdeal := hKernelIdeal) (hPre_tables_in_range := hPre_tables_in_range)
    ∧ quiescent_ReferenceIdeal (hReferenceIdeal := hReferenceIdeal) (hPre_tables_in_range := hPre_tables_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_router_finite (hKernel4Ideal := hKernel4Ideal) (hPre_router_finite := hPre_router_finite)
    ∧ quiescent_Reference4Ideal (hReference4Ideal := hReference4Ideal)
    ∧ quiescent_Reference4Ideal_pre_router_finite (hReference4Ideal := hReference4Ideal) (hPre_router_finite := hPre_router_finite)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal) (hPre_tables_in_range := hPre_tables_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_router_finite (hKernel4Ideal := hKernel4Ideal) (hReference4Ideal := hReference4Ideal) (hPre_router_finite := hPre_router_finite)
    ∧ preserves_Kernel5_Kernel5Ideal
    ∧ algebraic_Kernel5Ideal_Reference5Ideal (hKernel5Ideal := hKernel5Ideal) (hReference5Ideal := hReference5Ideal)
-- ==== Pre_router_finite.lean ====
abbrev S32x2048x1024 : Shape := ⟨3, ![32, 2048, 1024]⟩
abbrev S32x2048x512 : Shape := ⟨3, ![32, 2048, 512]⟩
abbrev S1x1024x1024 : Shape := ⟨3, ![1, 1024, 1024]⟩
abbrev S1x1024 : Shape := ⟨2, ![1, 1024]⟩
abbrev S1x1024x4 : Shape := ⟨3, ![1, 1024, 4]⟩
abbrev S1x1024x32 : Shape := ⟨3, ![1, 1024, 32]⟩
abbrev S8x128 : Shape := ⟨2, ![8, 128]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x4 : S_.BroadcastsInDim S1x1024x4 (![] : Fin 0 → Fin S1x1024x4.rank)
  reducesTo_S1x1024x4_S_d0_1_2 : S1x1024x4.ReducesTo [0, 1, 2] S_
  bcast_S_S1x1024x32 : S_.BroadcastsInDim S1x1024x32 (![] : Fin 0 → Fin S1x1024x32.rank)
  reducesTo_S1x1024x32_S_d0_1_2 : S1x1024x32.ReducesTo [0, 1, 2] S_

variable [Facts]

def fn {F : FTy → Type} [FloatOps F] (main_arg0 : FVec F S32x2048x1024 .f32) (main_arg1 : FVec F S32x2048x512 .bf16) (main_arg2 : FVec F S32x2048x512 .bf16) (main_arg3 : FVec F S1x1024x1024 .f32) (main_arg4 : FVec F S1x1024 .f32) (main_arg5 : FVec F S1x1024x4 .f32) (main_arg6 : FVec F S1x1024x32 .f32) (main_arg7 : FVec F S8x128 .f32) : IVec S_ 1 :=
  let main_v0 : FVec F S1x1024 .f32 := Host.absf main_arg4
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x4 .f32 := Host.absf main_arg5
  let main_cst_0 : FVec F S_ .f32 := constant S_ .f32 0x7F800000#32
  let main_v5 : FVec F S1x1024x4 .f32 := broadcastInDim S1x1024x4 ![] bcast_S_S1x1024x4 main_cst_0
  let main_v6 : IVec S1x1024x4 1 := cmpf .olt main_v4 main_v5
  let main_c_1 : IVec S_ 1 := constantI S_ 1 1#1
  let main_v7 : IVec S_ 1 := (fun x v => Host.reduce IntOp.andi x v reducesTo_S1x1024x4_S_d0_1_2 h_S_) main_v6 main_c_1
  let main_v8 : IVec S_ 1 := andi main_v3 main_v7
  let main_v9 : FVec F S1x1024x32 .f32 := Host.absf main_arg6
  let main_cst_2 : FVec F S_ .f32 := constant S_ .f32 0x7F800000#32
  let main_v10 : FVec F S1x1024x32 .f32 := broadcastInDim S1x1024x32 ![] bcast_S_S1x1024x32 main_cst_2
  let main_v11 : IVec S1x1024x32 1 := cmpf .olt main_v9 main_v10
  let main_c_3 : IVec S_ 1 := constantI S_ 1 1#1
  let main_v12 : IVec S_ 1 := (fun x v => Host.reduce IntOp.andi x v reducesTo_S1x1024x32_S_d0_1_2 h_S_) main_v11 main_c_3
  let main_v13 : IVec S_ 1 := andi main_v8 main_v12
  main_v13
-- ==== Pre_tables_in_range.lean ====
abbrev S496 : Shape := ⟨1, ![496]⟩
abbrev S126976x16x128 : Shape := ⟨3, ![126976, 16, 128]⟩
abbrev S1x32x1024x512 : Shape := ⟨4, ![1, 32, 1024, 512]⟩
abbrev S1x32x512x1024 : Shape := ⟨4, ![1, 32, 512, 1024]⟩
abbrev S_ : Shape := ⟨0, ![]⟩

class Facts : Prop where
  bcast_S_S496 : S_.BroadcastsInDim S496 (![] : Fin 0 → Fin S496.rank)

variable [Facts]

def fn {F : FTy → Type} [FloatOps F] (main_arg0 : IVec S496 32) (main_arg1 : IVec S496 32) (main_arg2 : IVec S496 32) (main_arg3 : FVec F S126976x16x128 .bf16) (main_arg4 : FVec F S1x32x1024x512 .f32) (main_arg5 : FVec F S1x32x1024x512 .f32) (main_arg6 : FVec F S1x32x512x1024 .f32) : IVec S496 1 :=
  let main_c : IVec S_ 32 := constantI S_ 32 0#32
  let main_v0 : IVec S496 32 := broadcastInDim S496 ![] bcast_S_S496 main_c
  let main_v1 : IVec S496 1 := cmpi .sge main_arg0 main_v0
  let main_v2 : IVec S496 1 := cmpi .slt main_arg0 main_arg1
  let main_v3 : IVec S496 1 := andi main_v1 main_v2
  let main_c_0 : IVec S_ 32 := constantI S_ 32 32#32
  let main_v4 : IVec S496 32 := broadcastInDim S496 ![] bcast_S_S496 main_c_0
  let main_v5 : IVec S496 1 := cmpi .slt main_arg1 main_v4
  let main_v6 : IVec S496 1 := andi main_v3 main_v5
  let main_c_1 : IVec S_ 32 := constantI S_ 32 0#32
  let main_v7 : IVec S496 32 := broadcastInDim S496 ![] bcast_S_S496 main_c_1
  let main_v8 : IVec S496 1 := cmpi .sge main_arg2 main_v7
  let main_v9 : IVec S496 1 := andi main_v6 main_v8
  main_v9
-- ==== Kernel.lean ====
abbrev S496 : Shape := ⟨1, ![496]⟩
abbrev S126976x16x128 : Shape := ⟨3, ![126976, 16, 128]⟩
abbrev S1x32x1024x512 : Shape := ⟨4, ![1, 32, 1024, 512]⟩
abbrev S1x32x512x1024 : Shape := ⟨4, ![1, 32, 512, 1024]⟩
abbrev S32x1024x512 : Shape := ⟨3, ![32, 1024, 512]⟩
abbrev S32x512x1024 : Shape := ⟨3, ![32, 512, 1024]⟩
abbrev S126976x8x128 : Shape := ⟨3, ![126976, 8, 128]⟩
abbrev S256x16x128 : Shape := ⟨3, ![256, 16, 128]⟩
abbrev S1x1024x512 : Shape := ⟨3, ![1, 1024, 512]⟩
abbrev S1 : Shape := ⟨1, ![1]⟩
abbrev S1x512x1024 : Shape := ⟨3, ![1, 512, 1024]⟩
abbrev S256x8x128 : Shape := ⟨3, ![256, 8, 128]⟩
abbrev S256x2048 : Shape := ⟨2, ![256, 2048]⟩
abbrev S256x1024 : Shape := ⟨2, ![256, 1024]⟩
abbrev S1024x512 : Shape := ⟨2, ![1024, 512]⟩
abbrev S256x512 : Shape := ⟨2, ![256, 512]⟩
abbrev S256x128 : Shape := ⟨2, ![256, 128]⟩
abbrev S512x1024 : Shape := ⟨2, ![512, 1024]⟩

abbrev nBuf : Space → Nat
  | .hbm => 11
  | .vmem => 16
  | .smem => 3
  | _ => 0

abbrev bufTy : (tb : Table) → Fin (tcTables nBuf tb) → BufTy
  | .hbm, ⟨0, _⟩ => ⟨S126976x16x128, .bf16⟩
  | .hbm, ⟨1, _⟩ => ⟨S1x32x1024x512, .f32⟩
  | .hbm, ⟨2, _⟩ => ⟨S1x32x1024x512, .f32⟩
  | .hbm, ⟨3, _⟩ => ⟨S1x32x512x1024, .f32⟩
  | .hbm, ⟨4, _⟩ => ⟨S32x1024x512, .f32⟩
  | .hbm, ⟨5, _⟩ => ⟨S32x1024x512, .bf16⟩
  | .hbm, ⟨6, _⟩ => ⟨S32x1024x512, .f32⟩
  | .hbm, ⟨7, _⟩ => ⟨S32x1024x512, .bf16⟩
  | .hbm, ⟨8, _⟩ => ⟨S32x512x1024, .f32⟩
  | .hbm, ⟨9, _⟩ => ⟨S32x512x1024, .bf16⟩
  | .hbm, ⟨10, _⟩ => ⟨S126976x8x128, .f32⟩
  | .local _ .vmem, ⟨0, _⟩ => ⟨S256x16x128, .bf16⟩
  | .local _ .vmem, ⟨1, _⟩ => ⟨S256x16x128, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S256x8x128, .f32⟩
  | .local _ .vmem, ⟨15, _⟩ => ⟨S256x8x128, .f32⟩
  | .local _ .smem, ⟨0, _⟩ => ⟨S496, .i32⟩
  | .local _ .smem, ⟨1, _⟩ => ⟨S496, .i32⟩
  | .local _ .smem, ⟨2, _⟩ => ⟨S496, .i32⟩
  | _, _ => ⟨S126976x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![496], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .eq v1 c0_i32_1
  let v6 : BitVec 32 := Scalar.extui v5
  let c0_i32_2 : BitVec 32 := 0#32
  let v7 : BitVec 1 := Scalar.cmpi .ne v6 c0_i32_2
  v7

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S496.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S496) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S496.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S496) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S496.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S496) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S496.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S496) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S496.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S496) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S496.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S496) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S496 : Shape := ⟨1, ![496]⟩
abbrev S126976x16x128 : Shape := ⟨3, ![126976, 16, 128]⟩
abbrev S1x32x1024x512 : Shape := ⟨4, ![1, 32, 1024, 512]⟩
abbrev S1x32x512x1024 : Shape := ⟨4, ![1, 32, 512, 1024]⟩
abbrev S126976x8x128 : Shape := ⟨3, ![126976, 8, 128]⟩
abbrev S126976x1024 : Shape := ⟨2, ![126976, 1024]⟩
abbrev S126976x1x128 : Shape := ⟨3, ![126976, 1, 128]⟩
abbrev S126976x128 : Shape := ⟨2, ![126976, 128]⟩
abbrev S496x1 : Shape := ⟨2, ![496, 1]⟩
abbrev S496x256 : Shape := ⟨2, ![496, 256]⟩
abbrev S126976 : Shape := ⟨1, ![126976]⟩
abbrev S126976x1 : Shape := ⟨2, ![126976, 1]⟩
abbrev S32 : Shape := ⟨1, ![32]⟩
abbrev S1x32 : Shape := ⟨2, ![1, 32]⟩
abbrev S126976x32 : Shape := ⟨2, ![126976, 32]⟩
abbrev S126976x32x1 : Shape := ⟨3, ![126976, 32, 1]⟩
abbrev S126976x32x128 : Shape := ⟨3, ![126976, 32, 128]⟩
abbrev S32x1024x512 : Shape := ⟨3, ![32, 1024, 512]⟩
abbrev S32x512x126976 : Shape := ⟨3, ![32, 512, 126976]⟩
abbrev S32x126976x512 : Shape := ⟨3, ![32, 126976, 512]⟩
abbrev S_ : Shape := ⟨0, ![]⟩
abbrev S32x512x1024 : Shape := ⟨3, ![32, 512, 1024]⟩
abbrev S32x126976x1024 : Shape := ⟨3, ![32, 126976, 1024]⟩
abbrev S32x126976x8x128 : Shape := ⟨4, ![32, 126976, 8, 128]⟩
abbrev S32x126976x128 : Shape := ⟨3, ![32, 126976, 128]⟩
abbrev S32x126976x1x128 : Shape := ⟨4, ![32, 126976, 1, 128]⟩
abbrev S126976x1x1 : Shape := ⟨3, ![126976, 1, 1]⟩

abbrev nBuf : Space → Nat
  | .hbm => 90
  | .vmem => 0
  | .smem => 0
  | _ => 0

abbrev bufTy : (tb : Table) → Fin (tcTables nBuf tb) → BufTy
  | .hbm, ⟨0, _⟩ => ⟨S496, .i32⟩
  | .hbm, ⟨1, _⟩ => ⟨S496, .i32⟩
  | .hbm, ⟨2, _⟩ => ⟨S496, .i32⟩
  | .hbm, ⟨3, _⟩ => ⟨S126976x16x128, .bf16⟩
  | .hbm, ⟨4, _⟩ => ⟨S1x32x1024x512, .f32⟩
  | .hbm, ⟨5, _⟩ => ⟨S1x32x1024x512, .f32⟩
  | .hbm, ⟨6, _⟩ => ⟨S1x32x512x1024, .f32⟩
  | .hbm, ⟨7, _⟩ => ⟨S126976x16x128, .f32⟩
  | .hbm, ⟨8, _⟩ => ⟨S126976x8x128, .f32⟩
  | .hbm, ⟨9, _⟩ => ⟨S126976x1024, .f32⟩
  | .hbm, ⟨10, _⟩ => ⟨S126976x1x128, .f32⟩
  | .hbm, ⟨11, _⟩ => ⟨S126976x128, .f32⟩
  | .hbm, ⟨12, _⟩ => ⟨S126976x1x128, .f32⟩
  | .hbm, ⟨13, _⟩ => ⟨S126976x128, .f32⟩
  | .hbm, ⟨14, _⟩ => ⟨S126976x128, .f32⟩
  | .hbm, ⟨15, _⟩ => ⟨S126976x1x128, .f32⟩
  | .hbm, ⟨16, _⟩ => ⟨S126976x128, .f32⟩
  | .hbm, ⟨17, _⟩ => ⟨S126976x1x128, .f32⟩
  | .hbm, ⟨18, _⟩ => ⟨S126976x128, .f32⟩
  | .hbm, ⟨19, _⟩ => ⟨S126976x128, .f32⟩
  | .hbm, ⟨20, _⟩ => ⟨S496x1, .i32⟩
  | .hbm, ⟨21, _⟩ => ⟨S496x256, .i32⟩
  | .hbm, ⟨22, _⟩ => ⟨S126976, .i32⟩
  | .hbm, ⟨23, _⟩ => ⟨S126976x1, .i32⟩
  | .hbm, ⟨24, _⟩ => ⟨S32, .i32⟩
  | .hbm, ⟨25, _⟩ => ⟨S1x32, .i32⟩
  | .hbm, ⟨26, _⟩ => ⟨S126976x32, .i32⟩
  | .hbm, ⟨27, _⟩ => ⟨S126976x32, .i32⟩
  | .hbm, ⟨28, _⟩ => ⟨S126976x32, .i1⟩
  | .hbm, ⟨29, _⟩ => ⟨S126976x32, .i32⟩
  | .hbm, ⟨30, _⟩ => ⟨S126976x32, .f32⟩
  | .hbm, ⟨31, _⟩ => ⟨S126976x32x1, .f32⟩
  | .hbm, ⟨32, _⟩ => ⟨S126976x1x128, .f32⟩
  | .hbm, ⟨33, _⟩ => ⟨S126976x32x128, .f32⟩
  | .hbm, ⟨34, _⟩ => ⟨S126976x32x128, .f32⟩
  | .hbm, ⟨35, _⟩ => ⟨S126976x32x128, .f32⟩
  | .hbm, ⟨36, _⟩ => ⟨S496x1, .i32⟩
  | .hbm, ⟨37, _⟩ => ⟨S496x256, .i32⟩
  | .hbm, ⟨38, _⟩ => ⟨S126976, .i32⟩
  | .hbm, ⟨39, _⟩ => ⟨S126976x1, .i32⟩
  | .hbm, ⟨40, _⟩ => ⟨S32, .i32⟩
  | .hbm, ⟨41, _⟩ => ⟨S1x32, .i32⟩
  | .hbm, ⟨42, _⟩ => ⟨S126976x32, .i32⟩
  | .hbm, ⟨43, _⟩ => ⟨S126976x32, .i32⟩
  | .hbm, ⟨44, _⟩ => ⟨S126976x32, .i1⟩
  | .hbm, ⟨45, _⟩ => ⟨S126976x32, .i32⟩
  | .hbm, ⟨46, _⟩ => ⟨S126976x32, .f32⟩
  | .hbm, ⟨47, _⟩ => ⟨S126976x32x1, .f32⟩
  | .hbm, ⟨48, _⟩ => ⟨S126976x1x128, .f32⟩
  | .hbm, ⟨49, _⟩ => ⟨S126976x32x128, .f32⟩
  | .hbm, ⟨50, _⟩ => ⟨S126976x32x128, .f32⟩
  | .hbm, ⟨51, _⟩ => ⟨S126976x32x128, .f32⟩
  | .hbm, ⟨52, _⟩ => ⟨S126976x32x128, .f32⟩
  | .hbm, ⟨53, _⟩ => ⟨S32x1024x512, .f32⟩
  | .hbm, ⟨54, _⟩ => ⟨S32x512x126976, .f32⟩
  | .hbm, ⟨55, _⟩ => ⟨S32x126976x512, .f32⟩
  | .hbm, ⟨56, _⟩ => ⟨S32x126976x512, .f32⟩
  | .hbm, ⟨57, _⟩ => ⟨S32x126976x512, .f32⟩
  | .hbm, ⟨58, _⟩ => ⟨S_, .f32⟩
  | .hbm, ⟨59, _⟩ => ⟨S32x126976x512, .f32⟩
  | .hbm, ⟨60, _⟩ => ⟨S32x126976x512, .f32⟩
  | .hbm, ⟨61, _⟩ => ⟨S_, .f32⟩
  | .hbm, ⟨62, _⟩ => ⟨S32x126976x512, .f32⟩
  | .hbm, ⟨63, _⟩ => ⟨S32x126976x512, .f32⟩
  | .hbm, ⟨64, _⟩ => ⟨S32x126976x512, .f32⟩
  | .hbm, ⟨65, _⟩ => ⟨S32x1024x512, .f32⟩
  | .hbm, ⟨66, _⟩ => ⟨S32x512x126976, .f32⟩
  | .hbm, ⟨67, _⟩ => ⟨S32x126976x512, .f32⟩
  | .hbm, ⟨68, _⟩ => ⟨S32x126976x512, .f32⟩
  | .hbm, ⟨69, _⟩ => ⟨S32x512x1024, .f32⟩
  | .hbm, ⟨70, _⟩ => ⟨S32x126976x1024, .f32⟩
  | .hbm, ⟨71, _⟩ => ⟨S32x126976x8x128, .f32⟩
  | .hbm, ⟨72, _⟩ => ⟨S32x126976x128, .f32⟩
  | .hbm, ⟨73, _⟩ => ⟨S32x126976x1x128, .f32⟩
  | .hbm, ⟨74, _⟩ => ⟨S32x126976x8x128, .f32⟩
  | .hbm, ⟨75, _⟩ => ⟨S32x126976x8x128, .f32⟩
  | .hbm, ⟨76, _⟩ => ⟨S_, .f32⟩
  | .hbm, ⟨77, _⟩ => ⟨S126976x8x128, .f32⟩
  | .hbm, ⟨78, _⟩ => ⟨S496x1, .i32⟩
  | .hbm, ⟨79, _⟩ => ⟨S496x256, .i32⟩
  | .hbm, ⟨80, _⟩ => ⟨S126976, .i32⟩
  | .hbm, ⟨81, _⟩ => ⟨S126976x1x1, .i32⟩
  | .hbm, ⟨82, _⟩ => ⟨S_, .i32⟩
  | .hbm, ⟨83, _⟩ => ⟨S126976x1x1, .i32⟩
  | .hbm, ⟨84, _⟩ => ⟨S126976x1x1, .i1⟩
  | .hbm, ⟨85, _⟩ => ⟨S_, .f32⟩
  | .hbm, ⟨86, _⟩ => ⟨S_, .f32⟩
  | .hbm, ⟨87, _⟩ => ⟨S126976x8x128, .i1⟩
  | .hbm, ⟨88, _⟩ => ⟨S126976x8x128, .f32⟩
  | .hbm, ⟨89, _⟩ => ⟨S126976x8x128, .f32⟩
  | _, _ => ⟨S496, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_c : Ref sig .tc := ⟨.hbm, 82, rfl⟩
abbrev main_v66 : Ref sig .tc := ⟨.hbm, 83, rfl⟩
abbrev main_v67 : Ref sig .tc := ⟨.hbm, 84, rfl⟩
abbrev main_cst_0 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v68 : Ref sig .tc := ⟨.hbm, 89, rfl⟩

abbrev nD : Nat := 1
abbrev τ : Topo := Topo.v7x

variable {F : FTy → Type} [FloatOps F]
-- ==== Kernel2.lean ====
abbrev S32x2048x1024 : Shape := ⟨3, ![32, 2048, 1024]⟩
abbrev S1x1024 : Shape := ⟨2, ![1, 1024]⟩
abbrev S1x1024x3072 : Shape := ⟨3, ![1, 1024, 3072]⟩
abbrev S65536x1024 : Shape := ⟨2, ![65536, 1024]⟩
abbrev S1024 : Shape := ⟨1, ![1024]⟩
abbrev S1024x3072 : Shape := ⟨2, ![1024, 3072]⟩
abbrev S3072 : Shape := ⟨1, ![3072]⟩
abbrev S_ : Shape := ⟨0, ![]⟩
abbrev S1x3072 : Shape := ⟨2, ![1, 3072]⟩
abbrev S65536x3072 : Shape := ⟨2, ![65536, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1024x1024 : Shape := ⟨2, ![1024, 1024]⟩

abbrev nBuf : Space → Nat
  | .hbm => 26
  | .vmem => 6
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x3072, .f32⟩
  | .hbm, ⟨3, _⟩ => ⟨S65536x1024, .f32⟩
  | .hbm, ⟨4, _⟩ => ⟨S1024, .f32⟩
  | .hbm, ⟨5, _⟩ => ⟨S1x1024, .f32⟩
  | .hbm, ⟨6, _⟩ => ⟨S1024x3072, .f32⟩
  | .hbm, ⟨7, _⟩ => ⟨S3072, .i32⟩
  | .hbm, ⟨8, _⟩ => ⟨S_, .i32⟩
  | .hbm, ⟨9, _⟩ => ⟨S3072, .i32⟩
  | .hbm, ⟨10, _⟩ => ⟨S3072, .i1⟩
  | .hbm, ⟨11, _⟩ => ⟨S_, .i32⟩
  | .hbm, ⟨12, _⟩ => ⟨S3072, .i32⟩
  | .hbm, ⟨13, _⟩ => ⟨S3072, .i1⟩
  | .hbm, ⟨14, _⟩ => ⟨S3072, .i1⟩
  | .hbm, ⟨15, _⟩ => ⟨S_, .f32⟩
  | .hbm, ⟨16, _⟩ => ⟨S_, .f32⟩
  | .hbm, ⟨17, _⟩ => ⟨S3072, .f32⟩
  | .hbm, ⟨18, _⟩ => ⟨S3072, .f32⟩
  | .hbm, ⟨19, _⟩ => ⟨S3072, .f32⟩
  | .hbm, ⟨20, _⟩ => ⟨S3072, .f32⟩
  | .hbm, ⟨21, _⟩ => ⟨S1x3072, .f32⟩
  | .hbm, ⟨22, _⟩ => ⟨S1024x3072, .f32⟩
  | .hbm, ⟨23, _⟩ => ⟨S1024x3072, .f32⟩
  | .hbm, ⟨24, _⟩ => ⟨S1024x3072, .bf16⟩
  | .hbm, ⟨25, _⟩ => ⟨S65536x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x3072, .bf16⟩
  | .local _ .vmem, ⟨5, _⟩ => ⟨S512x3072, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S32x2048x1024 : Shape := ⟨3, ![32, 2048, 1024]⟩
abbrev S1x1024 : Shape := ⟨2, ![1, 1024]⟩
abbrev S1x1024x3072 : Shape := ⟨3, ![1, 1024, 3072]⟩
abbrev S65536x1024 : Shape := ⟨2, ![65536, 1024]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1024x3072 : Shape := ⟨2, ![1024, 3072]⟩
abbrev S65536x3072 : Shape := ⟨2, ![65536, 3072]⟩
abbrev S65536x512 : Shape := ⟨2, ![65536, 512]⟩
abbrev S65536x2048 : Shape := ⟨2, ![65536, 2048]⟩

abbrev nBuf : Space → Nat
  | .hbm => 31
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x3072, .f32⟩
  | .hbm, ⟨3, _⟩ => ⟨S65536x1024, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S1024x3072, .f32⟩
  | .hbm, ⟨22, _⟩ => ⟨S65536x3072, .f32⟩
  | .hbm, ⟨23, _⟩ => ⟨S65536x512, .f32⟩
  | .hbm, ⟨24, _⟩ => ⟨S65536x512, .f32⟩
  | .hbm, ⟨25, _⟩ => ⟨S65536x2048, .f32⟩
  | .hbm, ⟨26, _⟩ => ⟨S_, .f32⟩
  | .hbm, ⟨27, _⟩ => ⟨S65536x512, .f32⟩
  | .hbm, ⟨28, _⟩ => ⟨S65536x512, .f32⟩
  | .hbm, ⟨29, _⟩ => ⟨S65536x3072, .f32⟩
  | .hbm, ⟨30, _⟩ => ⟨S65536x3072, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel3.lean ====
abbrev S32x2048x1024 : Shape := ⟨3, ![32, 2048, 1024]⟩
abbrev S32x2048x512 : Shape := ⟨3, ![32, 2048, 512]⟩
abbrev S1x1024x1024 : Shape := ⟨3, ![1, 1024, 1024]⟩
abbrev S1x1024 : Shape := ⟨2, ![1, 1024]⟩
abbrev S1x1024x4 : Shape := ⟨3, ![1, 1024, 4]⟩
abbrev S1x1024x32 : Shape := ⟨3, ![1, 1024, 32]⟩
abbrev S8x128 : Shape := ⟨2, ![8, 128]⟩
abbrev S1024x32 : Shape := ⟨2, ![1024, 32]⟩
abbrev S1024x4 : Shape := ⟨2, ![1024, 4]⟩
abbrev S_ : Shape := ⟨0, ![]⟩
abbrev S1024x92 : Shape := ⟨2, ![1024, 92]⟩
abbrev S1024x128 : Shape := ⟨2, ![1024, 128]⟩
abbrev S65536x1024 : Shape := ⟨2, ![65536, 1024]⟩
abbrev S65536x512 : Shape := ⟨2, ![65536, 512]⟩
abbrev S1x512x1024 : Shape := ⟨3, ![1, 512, 1024]⟩
abbrev S512x1024 : Shape := ⟨2, ![512, 1024]⟩
abbrev S1024 : Shape := ⟨1, ![1024]⟩
abbrev S512x512 : Shape := ⟨2, ![512, 512]⟩
abbrev S65536x16x128 : Shape := ⟨3, ![65536, 16, 128]⟩
abbrev S8x65536 : Shape := ⟨2, ![8, 65536]⟩
abbrev S512x16x128 : Shape := ⟨3, ![512, 16, 128]⟩
abbrev S8x512 : Shape := ⟨2, ![8, 512]⟩
abbrev S512 : Shape := ⟨1, ![512]⟩
abbrev S512x1 : Shape := ⟨2, ![512, 1]⟩
abbrev S512x128 : Shape := ⟨2, ![512, 128]⟩
abbrev S1x128 : Shape := ⟨2, ![1, 128]⟩
abbrev S128 : Shape := ⟨1, ![128]⟩
abbrev S512x2048 : Shape := ⟨2, ![512, 2048]⟩
abbrev S128x512 : Shape := ⟨2, ![128, 512]⟩

abbrev nBuf : Space → Nat
  | .hbm => 41
  | .vmem => 20
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S1x1024x1024, .f32⟩
  | .hbm, ⟨4, _⟩ => ⟨S1x1024, .f32⟩
  | .hbm, ⟨5, _⟩ => ⟨S1x1024x4, .f32⟩
  | .hbm, ⟨6, _⟩ => ⟨S1x1024x32, .f32⟩
  | .hbm, ⟨7, _⟩ => ⟨S8x128, .f32⟩
  | .hbm, ⟨8, _⟩ => ⟨S1024x32, .f32⟩
  | .hbm, ⟨9, _⟩ => ⟨S1024x4, .f32⟩
  | .hbm, ⟨10, _⟩ => ⟨S_, .f32⟩
  | .hbm, ⟨11, _⟩ => ⟨S1024x92, .f32⟩
  | .hbm, ⟨12, _⟩ => ⟨S1024x128, .f32⟩
  | .hbm, ⟨13, _⟩ => ⟨S65536x1024, .f32⟩
  | .hbm, ⟨14, _⟩ => ⟨S65536x512, .bf16⟩
  | .hbm, ⟨15, _⟩ => ⟨S65536x512, .bf16⟩
  | .hbm, ⟨16, _⟩ => ⟨S1x512x1024, .f32⟩
  | .hbm, ⟨17, _⟩ => ⟨S512x1024, .f32⟩
  | .hbm, ⟨18, _⟩ => ⟨S512x1024, .bf16⟩
  | .hbm, ⟨19, _⟩ => ⟨S1x512x1024, .f32⟩
  | .hbm, ⟨20, _⟩ => ⟨S512x1024, .f32⟩
  | .hbm, ⟨21, _⟩ => ⟨S512x1024, .bf16⟩
  | .hbm, ⟨22, _⟩ => ⟨S1024, .f32⟩
  | .hbm, ⟨23, _⟩ => ⟨S1x1024, .f32⟩
  | .hbm, ⟨24, _⟩ => ⟨S1024x128, .bf16⟩
  | .hbm, ⟨25, _⟩ => ⟨S_, .f32⟩
  | .hbm, ⟨26, _⟩ => ⟨S512x512, .f32⟩
  | .hbm, ⟨27, _⟩ => ⟨S512x512, .i32⟩
  | .hbm, ⟨28, _⟩ => ⟨S_, .i32⟩
  | .hbm, ⟨29, _⟩ => ⟨S512x512, .i32⟩
  | .hbm, ⟨30, _⟩ => ⟨S512x512, .i32⟩
  | .hbm, ⟨31, _⟩ => ⟨S512x512, .i32⟩
  | .hbm, ⟨32, _⟩ => ⟨S512x512, .i1⟩
  | .hbm, ⟨33, _⟩ => ⟨S_, .f32⟩
  | .hbm, ⟨34, _⟩ => ⟨S512x512, .f32⟩
  | .hbm, ⟨35, _⟩ => ⟨S512x512, .f32⟩
  | .hbm, ⟨36, _⟩ => ⟨S512x512, .bf16⟩
  | .hbm, ⟨37, _⟩ => ⟨S65536x1024, .f32⟩
  | .hbm, ⟨38, _⟩ => ⟨S65536x16x128, .bf16⟩
  | .hbm, ⟨39, _⟩ => ⟨S8x65536, .i32⟩
  | .hbm, ⟨40, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x128, .bf16⟩
  | .local _ .vmem, ⟨10, _⟩ => ⟨S512x512, .bf16⟩
  | .local _ .vmem, ⟨11, _⟩ => ⟨S8x128, .f32⟩
  | .local _ .vmem, ⟨12, _⟩ => ⟨S512x1024, .f32⟩
  | .local _ .vmem, ⟨13, _⟩ => ⟨S512x1024, .f32⟩
  | .local _ .vmem, ⟨14, _⟩ => ⟨S512x16x128, .bf16⟩
  | .local _ .vmem, ⟨15, _⟩ => ⟨S512x16x128, .bf16⟩
  | .local _ .vmem, ⟨16, _⟩ => ⟨S8x512, .i32⟩
  | .local _ .vmem, ⟨17, _⟩ => ⟨S8x512, .i32⟩
  | .local _ .vmem, ⟨18, _⟩ => ⟨S8x128, .f32⟩
  | .local _ .vmem, ⟨19, _⟩ => ⟨S8x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_cst : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_v19_0 : Ref sig .tc := ⟨.hbm, 37, rfl⟩
abbrev main_v19_1 : Ref sig .tc := ⟨.hbm, 38, rfl⟩
abbrev main_v19_2 : Ref sig .tc := ⟨.hbm, 39, rfl⟩
abbrev main_v19_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x16x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference3Ideal.lean ====
abbrev S32x2048x1024 : Shape := ⟨3, ![32, 2048, 1024]⟩
abbrev S32x2048x512 : Shape := ⟨3, ![32, 2048, 512]⟩
abbrev S1x1024x1024 : Shape := ⟨3, ![1, 1024, 1024]⟩
abbrev S1x1024 : Shape := ⟨2, ![1, 1024]⟩
abbrev S1x1024x4 : Shape := ⟨3, ![1, 1024, 4]⟩
abbrev S1x1024x32 : Shape := ⟨3, ![1, 1024, 32]⟩
abbrev S8x128 : Shape := ⟨2, ![8, 128]⟩
abbrev S65536x1024 : Shape := ⟨2, ![65536, 1024]⟩
abbrev S1024x1024 : Shape := ⟨2, ![1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S1x1024x1024, .f32⟩
  | .hbm, ⟨4, _⟩ => ⟨S1x1024, .f32⟩
  | .hbm, ⟨5, _⟩ => ⟨S1x1024x4, .f32⟩
  | .hbm, ⟨6, _⟩ => ⟨S1x1024x32, .f32⟩
  | .hbm, ⟨7, _⟩ => ⟨S8x128, .f32⟩
  | .hbm, ⟨8, _⟩ => ⟨S32x2048x1024, .bf16⟩
  | .hbm, ⟨9, _⟩ => ⟨S32x2048x1024, .f32⟩
  | .hbm, ⟨10, _⟩ => ⟨S65536x1024, .f32⟩
  | .hbm, ⟨11, _⟩ => ⟨S65536x1024, .f32⟩
  | .hbm, ⟨12, _⟩ => ⟨S1024x1024, .f32⟩
  | .hbm, ⟨13, _⟩ => ⟨S65536x1024, .f32⟩
  | .hbm, ⟨14, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩

abbrev nD : Nat := 1
abbrev τ : Topo := Topo.v7x

variable {F : FTy → Type} [FloatOps F]
-- ==== Kernel4.lean ====
abbrev S32x2048x1024 : Shape := ⟨3, ![32, 2048, 1024]⟩
abbrev S32x2048x512 : Shape := ⟨3, ![32, 2048, 512]⟩
abbrev S1x1024x1024 : Shape := ⟨3, ![1, 1024, 1024]⟩
abbrev S1x1024 : Shape := ⟨2, ![1, 1024]⟩
abbrev S1x1024x4 : Shape := ⟨3, ![1, 1024, 4]⟩
abbrev S1x1024x32 : Shape := ⟨3, ![1, 1024, 32]⟩
abbrev S8x128 : Shape := ⟨2, ![8, 128]⟩
abbrev S1024x32 : Shape := ⟨2, ![1024, 32]⟩
abbrev S1024x4 : Shape := ⟨2, ![1024, 4]⟩
abbrev S_ : Shape := ⟨0, ![]⟩
abbrev S1024x92 : Shape := ⟨2, ![1024, 92]⟩
abbrev S1024x128 : Shape := ⟨2, ![1024, 128]⟩
abbrev S65536x1024 : Shape := ⟨2, ![65536, 1024]⟩
abbrev S65536x512 : Shape := ⟨2, ![65536, 512]⟩
abbrev S1x512x1024 : Shape := ⟨3, ![1, 512, 1024]⟩
abbrev S512x1024 : Shape := ⟨2, ![512, 1024]⟩
abbrev S1024 : Shape := ⟨1, ![1024]⟩
abbrev S512x512 : Shape := ⟨2, ![512, 512]⟩
abbrev S65536x16x128 : Shape := ⟨3, ![65536, 16, 128]⟩
abbrev S8x65536 : Shape := ⟨2, ![8, 65536]⟩
abbrev S512x16x128 : Shape := ⟨3, ![512, 16, 128]⟩
abbrev S8x512 : Shape := ⟨2, ![8, 512]⟩
abbrev S512 : Shape := ⟨1, ![512]⟩
abbrev S512x1 : Shape := ⟨2, ![512, 1]⟩
abbrev S512x128 : Shape := ⟨2, ![512, 128]⟩
abbrev S1x128 : Shape := ⟨2, ![1, 128]⟩
abbrev S128 : Shape := ⟨1, ![128]⟩
abbrev S512x2048 : Shape := ⟨2, ![512, 2048]⟩
abbrev S128x512 : Shape := ⟨2, ![128, 512]⟩

abbrev nBuf : Space → Nat
  | .hbm => 41
  | .vmem => 20
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S1x1024x1024, .f32⟩
  | .hbm, ⟨4, _⟩ => ⟨S1x1024, .f32⟩
  | .hbm, ⟨5, _⟩ => ⟨S1x1024x4, .f32⟩
  | .hbm, ⟨6, _⟩ => ⟨S1x1024x32, .f32⟩
  | .hbm, ⟨7, _⟩ => ⟨S8x128, .f32⟩
  | .hbm, ⟨8, _⟩ => ⟨S1024x32, .f32⟩
  | .hbm, ⟨9, _⟩ => ⟨S1024x4, .f32⟩
  | .hbm, ⟨10, _⟩ => ⟨S_, .f32⟩
  | .hbm, ⟨11, _⟩ => ⟨S1024x92, .f32⟩
  | .hbm, ⟨12, _⟩ => ⟨S1024x128, .f32⟩
  | .hbm, ⟨13, _⟩ => ⟨S65536x1024, .f32⟩
  | .hbm, ⟨14, _⟩ => ⟨S65536x512, .bf16⟩
  | .hbm, ⟨15, _⟩ => ⟨S65536x512, .bf16⟩
  | .hbm, ⟨16, _⟩ => ⟨S1x512x1024, .f32⟩
  | .hbm, ⟨17, _⟩ => ⟨S512x1024, .f32⟩
  | .hbm, ⟨18, _⟩ => ⟨S512x1024, .bf16⟩
  | .hbm, ⟨19, _⟩ => ⟨S1x512x1024, .f32⟩
  | .hbm, ⟨20, _⟩ => ⟨S512x1024, .f32⟩
  | .hbm, ⟨21, _⟩ => ⟨S512x1024, .bf16⟩
  | .hbm, ⟨22, _⟩ => ⟨S1024, .f32⟩
  | .hbm, ⟨23, _⟩ => ⟨S1x1024, .f32⟩
  | .hbm, ⟨24, _⟩ => ⟨S1024x128, .bf16⟩
  | .hbm, ⟨25, _⟩ => ⟨S_, .f32⟩
  | .hbm, ⟨26, _⟩ => ⟨S512x512, .f32⟩
  | .hbm, ⟨27, _⟩ => ⟨S512x512, .i32⟩
  | .hbm, ⟨28, _⟩ => ⟨S_, .i32⟩
  | .hbm, ⟨29, _⟩ => ⟨S512x512, .i32⟩
  | .hbm, ⟨30, _⟩ => ⟨S512x512, .i32⟩
  | .hbm, ⟨31, _⟩ => ⟨S512x512, .i32⟩
  | .hbm, ⟨32, _⟩ => ⟨S512x512, .i1⟩
  | .hbm, ⟨33, _⟩ => ⟨S_, .f32⟩
  | .hbm, ⟨34, _⟩ => ⟨S512x512, .f32⟩
  | .hbm, ⟨35, _⟩ => ⟨S512x512, .f32⟩
  | .hbm, ⟨36, _⟩ => ⟨S512x512, .bf16⟩
  | .hbm, ⟨37, _⟩ => ⟨S65536x1024, .f32⟩
  | .hbm, ⟨38, _⟩ => ⟨S65536x16x128, .bf16⟩
  | .hbm, ⟨39, _⟩ => ⟨S8x65536, .i32⟩
  | .hbm, ⟨40, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x128, .bf16⟩
  | .local _ .vmem, ⟨10, _⟩ => ⟨S512x512, .bf16⟩
  | .local _ .vmem, ⟨11, _⟩ => ⟨S8x128, .f32⟩
  | .local _ .vmem, ⟨12, _⟩ => ⟨S512x1024, .f32⟩
  | .local _ .vmem, ⟨13, _⟩ => ⟨S512x1024, .f32⟩
  | .local _ .vmem, ⟨14, _⟩ => ⟨S512x16x128, .bf16⟩
  | .local _ .vmem, ⟨15, _⟩ => ⟨S512x16x128, .bf16⟩
  | .local _ .vmem, ⟨16, _⟩ => ⟨S8x512, .i32⟩
  | .local _ .vmem, ⟨17, _⟩ => ⟨S8x512, .i32⟩
  | .local _ .vmem, ⟨18, _⟩ => ⟨S8x128, .f32⟩
  | .local _ .vmem, ⟨19, _⟩ => ⟨S8x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_cst : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_v19_0 : Ref sig .tc := ⟨.hbm, 37, rfl⟩
abbrev main_v19_1 : Ref sig .tc := ⟨.hbm, 38, rfl⟩
abbrev main_v19_2 : Ref sig .tc := ⟨.hbm, 39, rfl⟩
abbrev main_v19_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x16x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference4Ideal.lean ====
abbrev S32x2048x1024 : Shape := ⟨3, ![32, 2048, 1024]⟩
abbrev S32x2048x512 : Shape := ⟨3, ![32, 2048, 512]⟩
abbrev S1x1024x1024 : Shape := ⟨3, ![1, 1024, 1024]⟩
abbrev S1x1024 : Shape := ⟨2, ![1, 1024]⟩
abbrev S1x1024x4 : Shape := ⟨3, ![1, 1024, 4]⟩
abbrev S1x1024x32 : Shape := ⟨3, ![1, 1024, 32]⟩
abbrev S8x128 : Shape := ⟨2, ![8, 128]⟩
abbrev S65536x1024 : Shape := ⟨2, ![65536, 1024]⟩
abbrev S1024x1024 : Shape := ⟨2, ![1024, 1024]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1024x4 : Shape := ⟨2, ![1024, 4]⟩
abbrev S65536x4 : Shape := ⟨2, ![65536, 4]⟩
abbrev S1024x32 : Shape := ⟨2, ![1024, 32]⟩
abbrev S65536x32 : Shape := ⟨2, ![65536, 32]⟩
abbrev S65536x4x8 : Shape := ⟨3, ![65536, 4, 8]⟩
abbrev S65536x1x1 : Shape := ⟨3, ![65536, 1, 1]⟩
abbrev S1 : Shape := ⟨1, ![1]⟩
abbrev S1x1x1 : Shape := ⟨3, ![1, 1, 1]⟩
abbrev S65536x1x8 : Shape := ⟨3, ![65536, 1, 8]⟩
abbrev S65536x8 : Shape := ⟨2, ![65536, 8]⟩
abbrev S65536x2 : Shape := ⟨2, ![65536, 2]⟩
abbrev S65536x128 : Shape := ⟨2, ![65536, 128]⟩
abbrev S65536x512 : Shape := ⟨2, ![65536, 512]⟩
abbrev S65536x2048 : Shape := ⟨2, ![65536, 2048]⟩
abbrev S65536x16x128 : Shape := ⟨3, ![65536, 16, 128]⟩

abbrev nBuf : Space → Nat
  | .hbm => 123
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S1x1024x1024, .f32⟩
  | .hbm, ⟨4, _⟩ => ⟨S1x1024, .f32⟩
  | .hbm, ⟨5, _⟩ => ⟨S1x1024x4, .f32⟩
  | .hbm, ⟨6, _⟩ => ⟨S1x1024x32, .f32⟩
  | .hbm, ⟨7, _⟩ => ⟨S8x128, .f32⟩
  | .hbm, ⟨8, _⟩ => ⟨S32x2048x1024, .bf16⟩
  | .hbm, ⟨9, _⟩ => ⟨S32x2048x1024, .f32⟩
  | .hbm, ⟨10, _⟩ => ⟨S65536x1024, .f32⟩
  | .hbm, ⟨11, _⟩ => ⟨S65536x1024, .f32⟩
  | .hbm, ⟨12, _⟩ => ⟨S1024x1024, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S_, .f32⟩
  | .hbm, ⟨17, _⟩ => ⟨S65536, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S65536x1, .f32⟩
  | .hbm, ⟨26, _⟩ => ⟨S65536x1024, .f32⟩
  | .hbm, ⟨27, _⟩ => ⟨S65536x1024, .f32⟩
  | .hbm, ⟨28, _⟩ => ⟨S1024, .f32⟩
  | .hbm, ⟨29, _⟩ => ⟨S1x1024, .f32⟩
  | .hbm, ⟨30, _⟩ => ⟨S65536x1024, .f32⟩
  | .hbm, ⟨31, _⟩ => ⟨S65536x1024, .f32⟩
  | .hbm, ⟨32, _⟩ => ⟨S1024x4, .f32⟩
  | .hbm, ⟨33, _⟩ => ⟨S65536x4, .f32⟩
  | .hbm, ⟨34, _⟩ => ⟨S_, .f32⟩
  | .hbm, ⟨35, _⟩ => ⟨S65536, .f32⟩
  | .hbm, ⟨36, _⟩ => ⟨S_, .f32⟩
  | .hbm, ⟨37, _⟩ => ⟨S65536, .f32⟩
  | .hbm, ⟨38, _⟩ => ⟨S65536, .f32⟩
  | .hbm, ⟨39, _⟩ => ⟨S65536x1, .f32⟩
  | .hbm, ⟨40, _⟩ => ⟨S65536x4, .f32⟩
  | .hbm, ⟨41, _⟩ => ⟨S65536x4, .f32⟩
  | .hbm, ⟨42, _⟩ => ⟨S65536x4, .f32⟩
  | .hbm, ⟨43, _⟩ => ⟨S_, .f32⟩
  | .hbm, ⟨44, _⟩ => ⟨S65536, .f32⟩
  | .hbm, ⟨45, _⟩ => ⟨S65536x1, .f32⟩
  | .hbm, ⟨46, _⟩ => ⟨S65536x4, .f32⟩
  | .hbm, ⟨47, _⟩ => ⟨S65536x4, .f32⟩
  | .hbm, ⟨48, _⟩ => ⟨S65536x1, .f32⟩
  | .hbm, ⟨49, _⟩ => ⟨S65536x1, .i32⟩
  | .hbm, ⟨50, _⟩ => ⟨S1024x32, .f32⟩
  | .hbm, ⟨51, _⟩ => ⟨S65536x32, .f32⟩
  | .hbm, ⟨52, _⟩ => ⟨S65536x4x8, .f32⟩
  | .hbm, ⟨53, _⟩ => ⟨S65536x1x1, .i32⟩
  | .hbm, ⟨54, _⟩ => ⟨S_, .i32⟩
  | .hbm, ⟨55, _⟩ => ⟨S65536x1x1, .i32⟩
  | .hbm, ⟨56, _⟩ => ⟨S65536x1x1, .i1⟩
  | .hbm, ⟨57, _⟩ => ⟨S_, .i32⟩
  | .hbm, ⟨58, _⟩ => ⟨S65536x1x1, .i32⟩
  | .hbm, ⟨59, _⟩ => ⟨S65536x1x1, .i32⟩
  | .hbm, ⟨60, _⟩ => ⟨S65536x1x1, .i32⟩
  | .hbm, ⟨61, _⟩ => ⟨S1, .i32⟩
  | .hbm, ⟨62, _⟩ => ⟨S_, .i32⟩
  | .hbm, ⟨63, _⟩ => ⟨S65536x1x1, .i32⟩
  | .hbm, ⟨64, _⟩ => ⟨S65536x1x1, .i1⟩
  | .hbm, ⟨65, _⟩ => ⟨S1x1x1, .i32⟩
  | .hbm, ⟨66, _⟩ => ⟨S65536x1x1, .i32⟩
  | .hbm, ⟨67, _⟩ => ⟨S65536x1x1, .i1⟩
  | .hbm, ⟨68, _⟩ => ⟨S65536x1x1, .i1⟩
  | .hbm, ⟨69, _⟩ => ⟨S_, .i1⟩
  | .hbm, ⟨70, _⟩ => ⟨S65536x1, .i1⟩
  | .hbm, ⟨71, _⟩ => ⟨S65536x1x8, .f32⟩
  | .hbm, ⟨72, _⟩ => ⟨S65536x1x8, .i1⟩
  | .hbm, ⟨73, _⟩ => ⟨S_, .f32⟩
  | .hbm, ⟨74, _⟩ => ⟨S65536x1x8, .f32⟩
  | .hbm, ⟨75, _⟩ => ⟨S65536x1x8, .f32⟩
  | .hbm, ⟨76, _⟩ => ⟨S65536x8, .f32⟩
  | .hbm, ⟨77, _⟩ => ⟨S65536x2, .f32⟩
  | .hbm, ⟨78, _⟩ => ⟨S65536x2, .i32⟩
  | .hbm, ⟨79, _⟩ => ⟨S_, .f32⟩
  | .hbm, ⟨80, _⟩ => ⟨S65536, .f32⟩
  | .hbm, ⟨81, _⟩ => ⟨S_, .f32⟩
  | .hbm, ⟨82, _⟩ => ⟨S65536, .f32⟩
  | .hbm, ⟨83, _⟩ => ⟨S65536, .f32⟩
  | .hbm, ⟨84, _⟩ => ⟨S65536x1, .f32⟩
  | .hbm, ⟨85, _⟩ => ⟨S65536x2, .f32⟩
  | .hbm, ⟨86, _⟩ => ⟨S65536x2, .f32⟩
  | .hbm, ⟨87, _⟩ => ⟨S65536x2, .f32⟩
  | .hbm, ⟨88, _⟩ => ⟨S_, .f32⟩
  | .hbm, ⟨89, _⟩ => ⟨S65536, .f32⟩
  | .hbm, ⟨90, _⟩ => ⟨S65536x1, .f32⟩
  | .hbm, ⟨91, _⟩ => ⟨S65536x2, .f32⟩
  | .hbm, ⟨92, _⟩ => ⟨S65536x2, .f32⟩
  | .hbm, ⟨93, _⟩ => ⟨S65536x2, .f32⟩
  | .hbm, ⟨94, _⟩ => ⟨S65536x2, .f32⟩
  | .hbm, ⟨95, _⟩ => ⟨S65536x1, .i32⟩
  | .hbm, ⟨96, _⟩ => ⟨S65536x1, .i32⟩
  | .hbm, ⟨97, _⟩ => ⟨S65536x1, .i1⟩
  | .hbm, ⟨98, _⟩ => ⟨S65536x1, .f32⟩
  | .hbm, ⟨99, _⟩ => ⟨S65536x1, .f32⟩
  | .hbm, ⟨100, _⟩ => ⟨S65536x1, .f32⟩
  | .hbm, ⟨101, _⟩ => ⟨S65536x1, .f32⟩
  | .hbm, ⟨102, _⟩ => ⟨S65536x1, .f32⟩
  | .hbm, ⟨103, _⟩ => ⟨S65536x1, .f32⟩
  | .hbm, ⟨104, _⟩ => ⟨S65536x1, .bf16⟩
  | .hbm, ⟨105, _⟩ => ⟨S65536x1, .f32⟩
  | .hbm, ⟨106, _⟩ => ⟨S65536x1, .bf16⟩
  | .hbm, ⟨107, _⟩ => ⟨S65536x1, .f32⟩
  | .hbm, ⟨108, _⟩ => ⟨S65536x1, .f32⟩
  | .hbm, ⟨109, _⟩ => ⟨S65536x128, .f32⟩
  | .hbm, ⟨110, _⟩ => ⟨S65536x128, .f32⟩
  | .hbm, ⟨111, _⟩ => ⟨S65536x1, .bf16⟩
  | .hbm, ⟨112, _⟩ => ⟨S65536x1, .f32⟩
  | .hbm, ⟨113, _⟩ => ⟨S65536x1, .bf16⟩
  | .hbm, ⟨114, _⟩ => ⟨S65536x1, .f32⟩
  | .hbm, ⟨115, _⟩ => ⟨S65536x1, .f32⟩
  | .hbm, ⟨116, _⟩ => ⟨S65536x128, .f32⟩
  | .hbm, ⟨117, _⟩ => ⟨S65536x128, .f32⟩
  | .hbm, ⟨118, _⟩ => ⟨S_, .f32⟩
  | .hbm, ⟨119, _⟩ => ⟨S65536x512, .f32⟩
  | .hbm, ⟨120, _⟩ => ⟨S65536x2048, .f32⟩
  | .hbm, ⟨121, _⟩ => ⟨S65536x2048, .bf16⟩
  | .hbm, ⟨122, _⟩ => ⟨S65536x16x128, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_values : Ref sig .tc := ⟨.hbm, 48, rfl⟩
abbrev main_indices : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call0_c : Ref sig .tc := ⟨.hbm, 54, rfl⟩
abbrev main_call0_v0 : Ref sig .tc := ⟨.hbm, 55, rfl⟩
abbrev main_call0_v1 : Ref sig .tc := ⟨.hbm, 56, rfl⟩
abbrev main_call0_c_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_c_1 : Ref sig .tc := ⟨.hbm, 61, rfl⟩
abbrev main_call0_c_2 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_v8 : Ref sig .tc := ⟨.hbm, 66, rfl⟩
abbrev main_call0_v9 : Ref sig .tc := ⟨.hbm, 67, rfl⟩
abbrev main_call0_v10 : Ref sig .tc := ⟨.hbm, 68, rfl⟩
abbrev main_call0_c_3 : Ref sig .tc := ⟨.hbm, 69, rfl⟩
abbrev main_call0_v11 : Ref sig .tc := ⟨.hbm, 70, rfl⟩
abbrev main_call0_v12 : Ref sig .tc := ⟨.hbm, 71, rfl⟩
abbrev main_call0_v13 : Ref sig .tc := ⟨.hbm, 72, rfl⟩
abbrev main_call0_cst : Ref sig .tc := ⟨.hbm, 73, rfl⟩
abbrev main_call0_v14 : Ref sig .tc := ⟨.hbm, 74, rfl⟩
abbrev main_v38 : Ref sig .tc := ⟨.hbm, 75, rfl⟩
abbrev main_v39 : Ref sig .tc := ⟨.hbm, 76, rfl⟩
abbrev main_values_5 : Ref sig .tc := ⟨.hbm, 77, rfl⟩
abbrev main_indices_6 : Ref sig .tc := ⟨.hbm, 78, rfl⟩
abbrev main_cst_7 : Ref sig .tc := ⟨.hbm, 79, rfl⟩
abbrev main_v40 : Ref sig .tc := ⟨.hbm, 80, rfl⟩
abbrev main_cst_8 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_9 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_10 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩

abbrev nD : Nat := 1
abbrev τ : Topo := Topo.v7x

variable {F : FTy → Type} [FloatOps F]
-- ==== Kernel5.lean ====
abbrev S128 : Shape := ⟨1, ![128]⟩
abbrev S8x65536 : Shape := ⟨2, ![8, 65536]⟩
abbrev S8x4096 : Shape := ⟨2, ![8, 4096]⟩
abbrev S1x4096 : Shape := ⟨2, ![1, 4096]⟩
abbrev S1 : Shape := ⟨1, ![1]⟩

abbrev nBuf : Space → Nat
  | .hbm => 2
  | .vmem => 4
  | .smem => 1
  | _ => 0

abbrev bufTy : (tb : Table) → Fin (tcTables nBuf tb) → BufTy
  | .hbm, ⟨0, _⟩ => ⟨S8x65536, .i32⟩
  | .hbm, ⟨1, _⟩ => ⟨S8x65536, .i32⟩
  | .local _ .vmem, ⟨0, _⟩ => ⟨S8x4096, .i32⟩
  | .local _ .vmem, ⟨1, _⟩ => ⟨S8x4096, .i32⟩
  | .local _ .vmem, ⟨2, _⟩ => ⟨S8x4096, .i32⟩
  | .local _ .vmem, ⟨3, _⟩ => ⟨S8x4096, .i32⟩
  | .local _ .smem, ⟨0, _⟩ => ⟨S128, .i32⟩
  | _, _ => ⟨S8x65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg1 : Ref sig .tc := ⟨.hbm, 0, rfl⟩
abbrev main_v0 : Ref sig .tc := ⟨.hbm, 1, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference5Ideal.lean ====
abbrev S128 : Shape := ⟨1, ![128]⟩
abbrev S8x65536 : Shape := ⟨2, ![8, 65536]⟩
abbrev S1x65536 : Shape := ⟨2, ![1, 65536]⟩
abbrev S65536 : Shape := ⟨1, ![65536]⟩
abbrev S65536x1 : Shape := ⟨2, ![65536, 1]⟩
abbrev S1x112 : Shape := ⟨2, ![1, 112]⟩
abbrev S65536x112 : Shape := ⟨2, ![65536, 112]⟩
abbrev S112 : Shape := ⟨1, ![112]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S128, .i32⟩
  | .hbm, ⟨1, _⟩ => ⟨S8x65536, .i32⟩
  | .hbm, ⟨2, _⟩ => ⟨S1x65536, .i32⟩
  | .hbm, ⟨3, _⟩ => ⟨S65536, .i32⟩
  | .hbm, ⟨4, _⟩ => ⟨S1x65536, .i32⟩
  | .hbm, ⟨5, _⟩ => ⟨S65536, .i32⟩
  | .hbm, ⟨6, _⟩ => ⟨S65536x1, .i32⟩
  | .hbm, ⟨7, _⟩ => ⟨S1x112, .i32⟩
  | .hbm, ⟨8, _⟩ => ⟨S65536x112, .i32⟩
  | .hbm, ⟨9, _⟩ => ⟨S65536x112, .i32⟩
  | .hbm, ⟨10, _⟩ => ⟨S65536x112, .i1⟩
  | .hbm, ⟨11, _⟩ => ⟨S65536x112, .i32⟩
  | .hbm, ⟨12, _⟩ => ⟨S112, .i32⟩
  | .hbm, ⟨13, _⟩ => ⟨S1x112, .i32⟩
  | .hbm, ⟨14, _⟩ => ⟨S65536x112, .i32⟩
  | .hbm, ⟨15, _⟩ => ⟨S65536x112, .i32⟩
  | .hbm, ⟨16, _⟩ => ⟨S_, .i32⟩
  | .hbm, ⟨17, _⟩ => ⟨S65536, .i32⟩
  | .hbm, ⟨18, _⟩ => ⟨S65536, .i32⟩
  | .hbm, ⟨19, _⟩ => ⟨S8x65536, .i32⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]
-- ==== Proof.Body.lean ====
module

public import proofs.«01_k».proof.Proof.Gen.Kernel.Skeleton
public import Idealize.ShloMosaic.Lib.Pipeline.Quiescent
public import Idealize.ShloMosaic.Lib.Pipeline.FrameBody
public import Idealize.ShloMosaic.Lib.Pipeline.Frame
public import Idealize.ShloMosaic.Lib.Writes
public import Idealize.ShloMosaic.Lib.VecWindow
public import Idealize.ShloMosaic.Lib.Exec
public import Idealize.ShloMosaic.Lib.Tactic

@[expose] public section

/-!
# One tile of rows through the two experts

The body reads one word of the third table, the number of live rows of the tile. A positive word runs both feed-forward
networks on the tile and stores their weighted sum; a zero word stores zeros.
-/

set_option maxRecDepth 16384

noncomputable section

namespace Cert.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The three tables, as the body is handed them. -/
abbrev tabLo : Memref sig .tc .smem S496 .i32 := Memref.whole main_arg0
abbrev tabHi : Memref sig .tc .smem S496 .i32 := Memref.whole main_arg1
abbrev tabRows : Memref sig .tc .smem S496 .i32 := Memref.whole main_arg2

/-- The weighted sum of the two networks' outputs on one tile `x` of rows: `g1`, `u1`, `d1` are the first expert's gate, up and
    down weights, `g2`, `u2`, `d2` the second's. -/
def tileSum (x : Vec F S256x16x128 .bf16) (g1 u1 : Vec F S1x1024x512 .bf16) (d1 : Vec F S1x512x1024 .bf16)
    (g2 u2 : Vec F S1x1024x512 .bf16) (d2 : Vec F S1x512x1024 .bf16) : Vec F S256x8x128 .f32 :=
  k0_pay1 (k0_pay5 x g1 u1 d1) (k0_pay6 x g2 u2) (k0_pay7 x) (k0_pay8 x) d2

/-- The word of the rows table that the body reads at point `i`. -/
abbrev liveRows (i : grid0.Coords) (T : S496.Idx → Elt F .i32) : Elt F .i32 :=
  View.readAt (Elt F) (tabRows).view (Rect.unit (s := S496) (k0_off1 i) S1.size (k0_off1_inb i)).toLoadRect T
    (Shape.Idx.first (numel1_S1.symm ▸ Nat.one_pos))

variable (c : Dev nD) (i : grid0.Coords)
  (arg4 : Memref sig .tc .vmem S256x16x128 .bf16) (harg4 : arg4.IsWhole)
  (arg5 : Memref sig .tc .vmem S1x1024x512 .bf16) (harg5 : arg5.IsWhole)
  (arg6 : Memref sig .tc .vmem S1x1024x512 .bf16) (harg6 : arg6.IsWhole)
  (arg7 : Memref sig .tc .vmem S1x512x1024 .bf16) (harg7 : arg7.IsWhole)
  (arg8 : Memref sig .tc .vmem S1x1024x512 .bf16) (harg8 : arg8.IsWhole)
  (arg9 : Memref sig .tc .vmem S1x1024x512 .bf16) (harg9 : arg9.IsWhole)
  (arg10 : Memref sig .tc .vmem S1x512x1024 .bf16) (harg10 : arg10.IsWhole)
  (arg11 : Memref sig .tc .vmem S256x8x128 .f32) (harg11 : arg11.IsWhole)
  (T0 T1 T2 : S496.Idx → Elt F .i32)
  (x : Vec F S256x16x128 .bf16) (g1 u1 : Vec F S1x1024x512 .bf16) (d1 : Vec F S1x512x1024 .bf16)
  (g2 u2 : Vec F S1x1024x512 .bf16) (d2 : Vec F S1x512x1024 .bf16)

/-- What the body holds besides the output block: the seven staged inputs and a half of each table. -/
def held : sProp 𝕄 :=
  iprop((arg4.view.loc (c : Thread nD τ) ↦[arg4.view.set]{fullShare} arg4.view.rep x)
    ∗ (arg5.view.loc (c : Thread nD τ) ↦[arg5.view.set]{fullShare} arg5.view.rep g1)
    ∗ (arg6.view.loc (c : Thread nD τ) ↦[arg6.view.set]{fullShare} arg6.view.rep u1)
    ∗ (arg7.view.loc (c : Thread nD τ) ↦[arg7.view.set]{fullShare} arg7.view.rep d1)
    ∗ (arg8.view.loc (c : Thread nD τ) ↦[arg8.view.set]{fullShare} arg8.view.rep g2)
    ∗ (arg9.view.loc (c : Thread nD τ) ↦[arg9.view.set]{fullShare} arg9.view.rep u2)
    ∗ (arg10.view.loc (c : Thread nD τ) ↦[arg10.view.set]{fullShare} arg10.view.rep d2)
    ∗ (tabLo.view.loc (c : Thread nD τ) ↦{fullShare.right} T0)
    ∗ (tabHi.view.loc (c : Thread nD τ) ↦{fullShare.right} T1)
    ∗ (tabRows.view.loc (c : Thread nD τ) ↦{fullShare.right} T2))

set_option maxHeartbeats 4000000 in
/-- A tile with live rows: the body leaves the weighted sum in the output block. -/
theorem body_live (h1 : k0_cond1 (liveRows i T2) = 1#1) (h2 : ¬ k0_cond2 (liveRows i T2) = 1#1) (K : PUnit → sProp 𝕄) :
    iprop(held c arg4 arg5 arg6 arg7 arg8 arg9 arg10 T0 T1 T2 x g1 u1 d1 g2 u2 d2
        ∗ (∃ d, owns (c : Thread nD τ) arg11 fullShare d)
        ∗ (iprop(held c arg4 arg5 arg6 arg7 arg8 arg9 arg10 T0 T1 T2 x g1 u1 d1 g2 u2 d2
            ∗ owns (c : Thread nD τ) arg11 fullShare (tileSum x g1 u1 d1 g2 u2 d2)) -∗ K ⟨⟩))
      ⊢ wp frame (wpE (defs₀ (F := F)) Variants.none c none) Set.univ
          (cc0_moe_experts i tabLo (Memref.isWhole_whole _) tabHi (Memref.isWhole_whole _) tabRows (Memref.isWhole_whole _)
            arg4 harg4 arg5 harg5 arg6 harg6 arg7 harg7 arg8 harg8 arg9 harg9 arg10 harg10 arg11 harg11) K := by
  unfold owns held
  rw [cc0_moe_experts_eq_skeleton]; unfold cc0_moe_experts_skel
  iintro ⟨⟨H0, H1, H2, H3, H4, H5, H6, HT0, HT1, HT2⟩, ⟨%d7, %f7, -, HO⟩, Hk⟩
  have hT0 : tabLo.IsWhole := Memref.isWhole_whole _
  have hT1 : tabHi.IsWhole := Memref.isWhole_whole _
  have hT2 : tabRows.IsWhole := Memref.isWhole_whole _
  sl_exec! (disch := first | (guard_target = k0_cond1 _ = _; exact h1) | (guard_target = ¬(k0_cond2 _ = _); exact h2))
  sl_step
  iapply Hk
  isplitr [HO]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    iexact HT2
  · iexists _
    isplitr [HO]
    swap
    · iexact HO
    · ipureintro
      sl_unfold_words
      refine (View.read_writes_full _ _ _ _ _).trans ?_
      unfold tileSum
      rw [View.readAt_rep_full, View.readAt_rep_full, View.readAt_rep_full, View.readAt_rep_full, View.readAt_rep_full, View.readAt_rep_full, View.readAt_rep_full]

set_option maxHeartbeats 4000000 in
/-- A tile with no live row: the body leaves zeros in the output block. -/
theorem body_idle (h1 : ¬ k0_cond1 (liveRows i T2) = 1#1) (h2 : k0_cond2 (liveRows i T2) = 1#1) (K : PUnit → sProp 𝕄) :
    iprop(held c arg4 arg5 arg6 arg7 arg8 arg9 arg10 T0 T1 T2 x g1 u1 d1 g2 u2 d2
        ∗ (∃ d, owns (c : Thread nD τ) arg11 fullShare d)
        ∗ (iprop(held c arg4 arg5 arg6 arg7 arg8 arg9 arg10 T0 T1 T2 x g1 u1 d1 g2 u2 d2
            ∗ owns (c : Thread nD τ) arg11 fullShare k0_pay2) -∗ K ⟨⟩))
      ⊢ wp frame (wpE (defs₀ (F := F)) Variants.none c none) Set.univ
          (cc0_moe_experts i tabLo (Memref.isWhole_whole _) tabHi (Memref.isWhole_whole _) tabRows (Memref.isWhole_whole _)
            arg4 harg4 arg5 harg5 arg6 harg6 arg7 harg7 arg8 harg8 arg9 harg9 arg10 harg10 arg11 harg11) K := by
  unfold owns held
  rw [cc0_moe_experts_eq_skeleton]; unfold cc0_moe_experts_skel
  iintro ⟨⟨H0, H1, H2, H3, H4, H5, H6, HT0, HT1, HT2⟩, ⟨%d7, %f7, -, HO⟩, Hk⟩
  have hT0 : tabLo.IsWhole := Memref.isWhole_whole _
  have hT1 : tabHi.IsWhole := Memref.isWhole_whole _
  have hT2 : tabRows.IsWhole := Memref.isWhole_whole _
  sl_exec! (disch := first | (guard_target = ¬(k0_cond1 _ = _); exact h1) | (guard_target = k0_cond2 _ = _; exact h2))
  sl_step
  iapply Hk
  isplitr [HO]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HT0]; · iexact HT0
    isplitl [HT1]; · iexact HT1
    iexact HT2
  · iexists _
    isplitr [HO]
    swap
    · iexact HO
    · ipureintro
      sl_unfold_words
      exact View.read_writes_full _ _ _ _ _

/-- What the body leaves in the output block, the rows word being `w`. -/
def tileOut (w : BitVec 32) (x : Vec F S256x16x128 .bf16) (g1 u1 : Vec F S1x1024x512 .bf16) (d1 : Vec F S1x512x1024 .bf16)
    (g2 u2 : Vec F S1x1024x512 .bf16) (d2 : Vec F S1x512x1024 .bf16) : Vec F S256x8x128 .f32 :=
  if k0_cond1 w = 1#1 then tileSum x g1 u1 d1 g2 u2 d2 else k0_pay2

/-- The body, whenever exactly one of its two branches is taken. -/
theorem body_run (w : BitVec 32) (hw : liveRows i T2 = w) (h : k0_cond1 w = 1#1 ↔ ¬ k0_cond2 w = 1#1)
    (K : PUnit → sProp 𝕄) :
    iprop(held c arg4 arg5 arg6 arg7 arg8 arg9 arg10 T0 T1 T2 x g1 u1 d1 g2 u2 d2
        ∗ (∃ d, owns (c : Thread nD τ) arg11 fullShare d)
        ∗ (iprop(held c arg4 arg5 arg6 arg7 arg8 arg9 arg10 T0 T1 T2 x g1 u1 d1 g2 u2 d2
            ∗ owns (c : Thread nD τ) arg11 fullShare (tileOut w x g1 u1 d1 g2 u2 d2)) -∗ K ⟨⟩))
      ⊢ wp frame (wpE (defs₀ (F := F)) Variants.none c none) Set.univ
          (cc0_moe_experts i tabLo (Memref.isWhole_whole _) tabHi (Memref.isWhole_whole _) tabRows (Memref.isWhole_whole _)
            arg4 harg4 arg5 harg5 arg6 harg6 arg7 harg7 arg8 harg8 arg9 harg9 arg10 harg10 arg11 harg11) K := by
  subst hw
  by_cases h1 : k0_cond1 (liveRows i T2) = 1#1
  · rw [show tileOut (liveRows i T2) x g1 u1 d1 g2 u2 d2 = tileSum x g1 u1 d1 g2 u2 d2 from if_pos h1]
    exact body_live c i arg4 harg4 arg5 harg5 arg6 harg6 arg7 harg7 arg8 harg8 arg9 harg9 arg10 harg10 arg11 harg11
      T0 T1 T2 x g1 u1 d1 g2 u2 d2 h1 (h.1 h1) K
  · rw [show tileOut (liveRows i T2) x g1 u1 d1 g2 u2 d2 = k0_pay2 from if_neg h1]
    exact body_idle c i arg4 harg4 arg5 harg5 arg6 harg6 arg7 harg7 arg8 harg8 arg9 harg9 arg10 harg10 arg11 harg11
      T0 T1 T2 x g1 u1 d1 g2 u2 d2 h1 (not_not.1 fun h2 => h1 (h.2 h2)) K

end Cert.Experts
-- ==== Proof.Tables.lean ====
module

public import proofs.«01_k».proof.Proof.Body
public import proofs.«01_k».proof.Defs
public import Idealize.ShloMosaic.Lib.StableHlo.Predicate
public import Idealize.ShloMosaic.Lib.Affine

@[expose] public section

/-!
# The three tables in their ranges

What the precondition says of the tables word by word, and what follows for the launch: every block a table word names lies
inside the stacked weights, and exactly one of the body's two branches is taken at every tile.
-/

set_option maxRecDepth 16384

noncomputable section

namespace Cert.Experts

open Cert.Kernel Cert.Kernel.Gen
open Idealize.ShloMosaic
open Idealize.ShloMosaic.TcCoe

variable {F : FTy → Type} [FloatOps F]

/-- The tables' ranges: the first expert before the second, both among the 32, and a count of rows that is not negative. -/
structure InRange (lo hi rows : S496.Idx → BitVec 32) : Prop where
  lt : ∀ x, (lo x).toNat < (hi x).toNat
  hi : ∀ x, (hi x).toNat < 32
  rows : ∀ x, (rows x).toNat < 2 ^ 31

theorem InRange.lo {lo hi rows : S496.Idx → BitVec 32} (h : InRange lo hi rows) (x : S496.Idx) : (lo x).toNat < 32 :=
  (h.lt x).trans (h.hi x)

/-- A conjunction of one-bit words is one exactly when both are. -/
theorem and_one {a b : BitVec 1} (h : a &&& b = 1#1) : a = 1#1 ∧ b = 1#1 := by revert a b; decide

theorem sge_zero {a : BitVec 32} (h : IntOp.cmpi .sge a 0#32 = 1#1) : a.toNat < 2 ^ 31 := by
  have h' : (0#32).sle a = true := by
    have h2 : BitVec.ofBool ((0#32).sle a) = 1#1 := h
    cases e : (0#32).sle a
    · rw [e] at h2; exact absurd h2 (by decide)
    · rfl
  have h0 : (0 : Int) ≤ a.toInt := by simpa [BitVec.sle] using h'
  rw [BitVec.toInt_eq_toNat_cond] at h0
  have := a.isLt
  split at h0 <;> omega

theorem slt_toInt {a b : BitVec 32} (h : IntOp.cmpi .slt a b = 1#1) : a.toInt < b.toInt := by
  have h' : a.slt b = true := by
    have h2 : BitVec.ofBool (a.slt b) = 1#1 := h
    cases e : a.slt b
    · rw [e] at h2; exact absurd h2 (by decide)
    · rfl
  simpa [BitVec.slt] using h'

theorem toInt_small {a : BitVec 32} (h : a.toNat < 2 ^ 31) : a.toInt = a.toNat := by
  rw [BitVec.toInt_eq_toNat_cond]; split <;> omega

/-- The precondition, read word by word. -/
theorem inRange_of_pre [Cert.Pre_tables_in_range.Facts] {lo hi rows : S496.Idx → BitVec 32} {x : FVec F S126976x16x128 .bf16}
    {g u : FVec F S1x32x1024x512 .f32} {d : FVec F S1x32x512x1024 .f32}
    (h : Cert.Pre_tables_in_range.fn (F := F) lo hi rows x g u d = fun _ => 1#1) : InRange lo hi rows := by
  have key : ∀ y, (lo y).toNat < (hi y).toNat ∧ (hi y).toNat < 32 ∧ (rows y).toNat < 2 ^ 31 := by
    intro y
    have e := congrFun h y
    simp only [Cert.Pre_tables_in_range.fn] at e
    obtain ⟨e, e4⟩ := and_one e
    obtain ⟨e, e3⟩ := and_one e
    obtain ⟨e1, e2⟩ := and_one e
    have a1 : (lo y).toNat < 2 ^ 31 := sge_zero e1
    have a4 : (rows y).toNat < 2 ^ 31 := sge_zero e4
    have a2 : (lo y).toInt < (hi y).toInt := slt_toInt e2
    have a3 : (hi y).toInt < 32 := slt_toInt e3
    rw [toInt_small a1] at a2
    rw [BitVec.toInt_eq_toNat_cond] at a2 a3
    have := (hi y).isLt
    refine ⟨?_, ?_, a4⟩ <;> split at a2 <;> omega
  exact ⟨fun y => (key y).1, fun y => (key y).2.1, fun y => (key y).2.2⟩

/-! ## The words the launch and the body read -/

/-- A grid point's entry in the tables. -/
def tileOf (i : grid0.Coords) : S496.Idx := fun a => ⟨(i 0).val, by
  have h : (i 0).val < 496 := (i 0).isLt
  fin_cases a; exact h⟩

theorem off1_zero (i : grid0.Coords) : k0_off1 i 0 = (i 0).val := by
  have h : (i 0).val < 496 := (i 0).isLt
  show (BitVec.ofNat 32 (i 0).val).toNat = _
  rw [BitVec.toNat_ofNat]; omega

/-- The one element under the rectangle of a scalar load at point `i`. -/
theorem emb_first (i : grid0.Coords) (hp : 0 < (Rect.unit (s := S496) (k0_off1 i) S1.size (k0_off1_inb i)).shape.numel) :
    (Rect.unit (s := S496) (k0_off1 i) S1.size (k0_off1_inb i)).emb (Shape.Idx.first hp) = tileOf i := by
  funext a
  apply Fin.ext
  have h0 : (Shape.Idx.first hp a).val < 1 := by fin_cases a; exact (Shape.Idx.first hp 0).isLt
  have e : k0_off1 i a = (i 0).val := by fin_cases a; exact off1_zero i
  show k0_off1 i a + 1 * (Shape.Idx.first hp a).val = (i 0).val
  omega

theorem liveRows_eq (i : grid0.Coords) (T : S496.Idx → Elt F .i32) : liveRows i T = T (tileOf i) :=
  congrArg T (emb_first i _)

theorem atD_eq (i : grid0.Coords) (pf : pre0.Contents (Elt F)) : pf.atD 2 (k0_off1 i) = pf 2 (tileOf i) := by
  have h : ∀ a, k0_off1 i a + 1 ≤ S496.size a := fun a => by
    have := k0_off1_inb i a
    fin_cases a; exact this
  refine (dif_pos h).trans (congrArg (pf 2) ?_)
  funext a
  apply Fin.ext
  show k0_off1 i a = (i 0).val
  fin_cases a; exact off1_zero i

theorem transform_1_eq (pf : pre0.Contents (Elt F)) (i : grid0.Coords) :
    cc0_transform_1 k0_off1_inb numel1_S1 pf i = ![BitVec.toNat (pf 0 (tileOf i)), 0, 0] :=
  congrArg (fun w => ![BitVec.toNat w, 0, 0]) (congrArg (pf 0) (emb_first i _))

theorem transform_4_eq (pf : pre0.Contents (Elt F)) (i : grid0.Coords) :
    cc0_transform_4 k0_off1_inb numel1_S1 pf i = ![BitVec.toNat (pf 1 (tileOf i)), 0, 0] :=
  congrArg (fun w => ![BitVec.toNat w, 0, 0]) (congrArg (pf 1) (emb_first i _))

/-! ## What the ranges give -/

/-- A block of the stacked weights named by a word below 32 lies inside them. -/
theorem block_in {n : ℕ} (h : n < 32) {a b : ℕ} (x : Fin 3) :
    ((![n, 0, 0] : Fin 3 → ℕ) x + 1) * (![1, a, b] : Fin 3 → ℕ) x ≤ (![32, a, b] : Fin 3 → ℕ) x := by
  fin_cases x
  · show (n + 1) * 1 ≤ 32; omega
  · show (0 + 1) * a ≤ a; omega
  · show (0 + 1) * b ≤ b; omega

/-- The launch's side condition holds of tables in range. -/
theorem ok_of_inRange (pf : pre0.Contents (Elt F)) (h : InRange (pf 0) (pf 1) (pf 2)) : ok0 pf := by
  have g1 : ∀ i : grid0.Coords, ∀ a, (cc0_transform_1 k0_off1_inb numel1_S1 pf i a + 1) * S1x1024x512.size a ≤ S32x1024x512.size a :=
    fun i a => by rw [transform_1_eq]; exact block_in (h.lo _) a
  have g3 : ∀ i : grid0.Coords, ∀ a, (cc0_transform_3 k0_off1_inb numel1_S1 pf i a + 1) * S1x512x1024.size a ≤ S32x512x1024.size a :=
    fun i a => by
      rw [show cc0_transform_3 k0_off1_inb numel1_S1 pf i = cc0_transform_1 k0_off1_inb numel1_S1 pf i from rfl, transform_1_eq]
      exact block_in (h.lo _) a
  have g4 : ∀ i : grid0.Coords, ∀ a, (cc0_transform_4 k0_off1_inb numel1_S1 pf i a + 1) * S1x1024x512.size a ≤ S32x1024x512.size a :=
    fun i a => by rw [transform_4_eq]; exact block_in (h.hi _) a
  have g6 : ∀ i : grid0.Coords, ∀ a, (cc0_transform_6 k0_off1_inb numel1_S1 pf i a + 1) * S1x512x1024.size a ≤ S32x512x1024.size a :=
    fun i a => by
      rw [show cc0_transform_6 k0_off1_inb numel1_S1 pf i = cc0_transform_4 k0_off1_inb numel1_S1 pf i from rfl, transform_4_eq]
      exact block_in (h.hi _) a
  exact ⟨fun i => ⟨g1 i, .inr (Affine.block_words_dvd (by decide) (by decide))⟩,
    fun i => ⟨g1 i, .inr (Affine.block_words_dvd (by decide) (by decide))⟩,
    fun i => ⟨g3 i, .inr (Affine.block_words_dvd (by decide) (by decide))⟩,
    fun i => ⟨g4 i, .inr (Affine.block_words_dvd (by decide) (by decide))⟩,
    fun i => ⟨g4 i, .inr (Affine.block_words_dvd (by decide) (by decide))⟩,
    fun i => ⟨g6 i, .inr (Affine.block_words_dvd (by decide) (by decide))⟩⟩

theorem cond1_iff {w : BitVec 32} (h : w.toNat < 2 ^ 31) : k0_cond1 w = 1#1 ↔ 0 < w.toNat := by
  have e := StableHlo.Predicate.sgt_iff_toNat (a := w) (b := 0#32) h (by decide)
  have e' : ∀ b : BitVec 1, Scalar.cmpi .ne (Scalar.extui b : BitVec 32) 0#32 = 1#1 ↔ b = 1#1 := by decide
  exact (e' _).trans e

theorem cond2_iff {w : BitVec 32} : k0_cond2 w = 1#1 ↔ w.toNat = 0 := by
  have e' : ∀ b : BitVec 1, Scalar.cmpi .ne (Scalar.extui b : BitVec 32) 0#32 = 1#1 ↔ b = 1#1 := by decide
  refine (e' _).trans (StableHlo.Predicate.cmpi_eq_iff.trans ⟨fun h => by rw [h]; rfl, fun h => BitVec.eq_of_toNat_eq h⟩)

/-- Exactly one branch. -/
theorem one_branch {w : BitVec 32} (h : w.toNat < 2 ^ 31) : k0_cond1 w = 1#1 ↔ ¬ k0_cond2 w = 1#1 := by
  rw [cond1_iff h, cond2_iff]; omega

/-- No point leaves the output block alone. -/
theorem not_idle (pf : pre0.Contents (Elt F)) (h : InRange (pf 0) (pf 1) (pf 2)) (i : grid0.Coords) : idle0 pf 7 i = false := by
  show (!(k0_cond1 (pf.atD 2 (k0_off1 i)) == 1#1) && !(k0_cond2 (pf.atD 2 (k0_off1 i)) == 1#1)) = false
  rw [atD_eq]
  have e := one_branch (h.rows (tileOf i))
  by_cases h1 : k0_cond1 (pf 2 (tileOf i)) = 1#1
  · rw [h1]; rfl
  · have h2 : k0_cond2 (pf 2 (tileOf i)) = 1#1 := not_not.1 fun h2 => h1 (e.2 h2)
    rw [h2]; exact Bool.and_false _

end Cert.Experts
-- ==== Proof.Run.lean ====
module

public import proofs.«01_k».proof.Proof.Tables
public import proofs.«01_k».proof.Proof.Gen.Kernel.Launch
public import Idealize.ShloMosaic.Lib.Pipeline.TableIdle
public import Idealize.ShloMosaic.Lib.StableHlo.RunRead

@[expose] public section

/-!
# The launch

The three tables in range, the pipeline runs the body over the 496 tiles. Each window's block at a point is read off its array
as the host operations left it; the output window's block after the point is what the body stores.
-/

set_option maxRecDepth 16384
set_option Elab.async false

noncomputable section

namespace Cert.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers when the region is entered: what the host operations leave. -/
def entry (c : Dev nD) (b : Ref sig .tc) : Buf (Elt F) ((c.tc : Thread nD τ).loc b) :=
  StableHlo.after hostOps0 (fun b => m (c, b)) b

/-- A buffer the host operations do not write. -/
theorem entry_kept (c : Dev nD) (b : Ref sig .tc) (hb : b ∉ [main_v0, main_v1, main_v2, main_v3, main_v4, main_v5]) :
    entry m c b = m ((c.tc : Thread nD τ).loc b) :=
  StableHlo.after_unwritten [main_v0, main_v1, main_v2, main_v3, main_v4, main_v5] rfl hb _

/-- The tables at entry. -/
def tables : pre0.Contents (Elt F) := fun k => entry m 0 (pre0.ref k)

/-- The tables of the launch memory are in range. -/
def Ranged : Prop := InRange (tables m 0) (tables m 1) (tables m 2)

variable (h : Ranged m)

/-- The tables with their side condition, and the pipeline at them. -/
def adm : (pcfg0 (F := F)).Adm := ⟨tables m, ok_of_inRange _ h⟩
abbrev cfgA : Pipeline.Cfg sig Λ₀ := cfg0 (F := F) (adm m h)

abbrev crd (t : Fin (cfgA m h).N) : (cfgA m h).grid.Coords := (cfgA m h).grid.coords t

/-! ## The staging memrefs at a point -/

abbrev st0 (t : Fin (cfgA m h).N) : Memref sig .tc .vmem S256x16x128 .bf16 := spec0_0.stage ((cfgA m h).slots t (0 : Fin 8))
abbrev st1 (t : Fin (cfgA m h).N) : Memref sig .tc .vmem S1x1024x512 .bf16 := spec0_1.stage ((cfgA m h).slots t (1 : Fin 8))
abbrev st2 (t : Fin (cfgA m h).N) : Memref sig .tc .vmem S1x1024x512 .bf16 := spec0_2.stage ((cfgA m h).slots t (2 : Fin 8))
abbrev st3 (t : Fin (cfgA m h).N) : Memref sig .tc .vmem S1x512x1024 .bf16 := spec0_3.stage ((cfgA m h).slots t (3 : Fin 8))
abbrev st4 (t : Fin (cfgA m h).N) : Memref sig .tc .vmem S1x1024x512 .bf16 := spec0_4.stage ((cfgA m h).slots t (4 : Fin 8))
abbrev st5 (t : Fin (cfgA m h).N) : Memref sig .tc .vmem S1x1024x512 .bf16 := spec0_5.stage ((cfgA m h).slots t (5 : Fin 8))
abbrev st6 (t : Fin (cfgA m h).N) : Memref sig .tc .vmem S1x512x1024 .bf16 := spec0_6.stage ((cfgA m h).slots t (6 : Fin 8))
abbrev st7 (t : Fin (cfgA m h).N) : Memref sig .tc .vmem S256x8x128 .f32 := spec0_7.stage ((cfgA m h).slots t (7 : Fin 8))

/-! ## The proof data -/

/-- Window `w`'s block at point `t`, read off its array at entry. -/
def blockAt (c : Dev nD) (w : Fin (cfgA m h).W) (t : Fin (cfgA m h).N) :
    (((cfgA m h).win w).xblock (crd m h t)).Idx → Elt F ((cfgA m h).win w).elt :=
  (((cfgA m h).win w).blk t).view.read (Elt F) (entry m c (Pipeline.arrRef (cfgA m h).spec w))

/-- What the body leaves in the output block at point `t`. -/
@[irreducible] def outAt (c : Dev nD) (t : Fin (cfgA m h).N) :
    (((cfgA m h).win (7 : Fin 8)).xblock (crd m h t)).Idx → Elt F ((cfgA m h).win (7 : Fin 8)).elt :=
  tileOut (tables m 2 (tileOf (crd m h t))) (blockAt m h c (0 : Fin 8) t) (blockAt m h c (1 : Fin 8) t)
    (blockAt m h c (2 : Fin 8) t) (blockAt m h c (3 : Fin 8) t) (blockAt m h c (4 : Fin 8) t) (blockAt m h c (5 : Fin 8) t)
    (blockAt m h c (6 : Fin 8) t)

/-- The invariant between points: the generator's register at some value, and the body's halves of the tables. -/
def inv (c : Dev nD) : sProp 𝕄 :=
  iprop(Pipeline.ΦA (cfgA m h).spec c ∗ Pipeline.ΦT pre0 (tables m) c)

def dats (_ : Fin 1) (c : Dev nD) : Dat τ (Elt F) Unit ℕ (UR sig nD τ) ℕ (cfgA m h) c where
  A w := entry m c (Pipeline.arrRef (cfgA m h).spec w)
  after w t := match w with
    | ⟨0, _⟩ => blockAt m h c (0 : Fin 8) t
    | ⟨1, _⟩ => blockAt m h c (1 : Fin 8) t
    | ⟨2, _⟩ => blockAt m h c (2 : Fin 8) t
    | ⟨3, _⟩ => blockAt m h c (3 : Fin 8) t
    | ⟨4, _⟩ => blockAt m h c (4 : Fin 8) t
    | ⟨5, _⟩ => blockAt m h c (5 : Fin 8) t
    | ⟨6, _⟩ => blockAt m h c (6 : Fin 8) t
    | ⟨7, _⟩ => outAt m h c t
  Φ _ := inv m h c
  q w := Pipeline.shareOf (cfgA m h).spec w
  owed _ := 0

theorem after_0 (c : Dev nD) (t : Fin (cfgA m h).N) : (dats m h 0 c).after (0 : Fin 8) t = blockAt m h c (0 : Fin 8) t := rfl
theorem after_1 (c : Dev nD) (t : Fin (cfgA m h).N) : (dats m h 0 c).after (1 : Fin 8) t = blockAt m h c (1 : Fin 8) t := rfl
theorem after_2 (c : Dev nD) (t : Fin (cfgA m h).N) : (dats m h 0 c).after (2 : Fin 8) t = blockAt m h c (2 : Fin 8) t := rfl
theorem after_3 (c : Dev nD) (t : Fin (cfgA m h).N) : (dats m h 0 c).after (3 : Fin 8) t = blockAt m h c (3 : Fin 8) t := rfl
theorem after_4 (c : Dev nD) (t : Fin (cfgA m h).N) : (dats m h 0 c).after (4 : Fin 8) t = blockAt m h c (4 : Fin 8) t := rfl
theorem after_5 (c : Dev nD) (t : Fin (cfgA m h).N) : (dats m h 0 c).after (5 : Fin 8) t = blockAt m h c (5 : Fin 8) t := rfl
theorem after_6 (c : Dev nD) (t : Fin (cfgA m h).N) : (dats m h 0 c).after (6 : Fin 8) t = blockAt m h c (6 : Fin 8) t := rfl
theorem after_7 (c : Dev nD) (t : Fin (cfgA m h).N) : (dats m h 0 c).after (7 : Fin 8) t = outAt m h c t := rfl

/-- An input window holds its block when the body runs. -/
theorem before_of_kept (c : Dev nD) (w : Fin (cfgA m h).W) (hw : ((cfgA m h).win w).isOut = false)
    (hlive : ∀ i, (cfgA m h).idle w i = false) (hkeep : ∀ t, ((cfgA m h).win w).cut (crd m h t) ((dats m h 0 c).after w t) = blockAt m h c w t)
    (t : Fin (cfgA m h).N) (d) : (dats m h 0 c).before w t d = (dats m h 0 c).fetched w t d :=
  (dats m h 0 c).before_in_eq_fetched w hw hlive (fun _ _ _ => rfl) hkeep t d

theorem before_0 (c : Dev nD) (t : Fin (cfgA m h).N) (d) : (dats m h 0 c).before (0 : Fin 8) t d = blockAt m h c (0 : Fin 8) t :=
  before_of_kept m h c (0 : Fin 8) rfl (fun _ => rfl) (fun _ => rfl) t d
theorem before_1 (c : Dev nD) (t : Fin (cfgA m h).N) (d) : (dats m h 0 c).before (1 : Fin 8) t d = blockAt m h c (1 : Fin 8) t :=
  before_of_kept m h c (1 : Fin 8) rfl (fun _ => rfl) (fun _ => rfl) t d
theorem before_2 (c : Dev nD) (t : Fin (cfgA m h).N) (d) : (dats m h 0 c).before (2 : Fin 8) t d = blockAt m h c (2 : Fin 8) t :=
  before_of_kept m h c (2 : Fin 8) rfl (fun _ => rfl) (fun _ => rfl) t d
theorem before_3 (c : Dev nD) (t : Fin (cfgA m h).N) (d) : (dats m h 0 c).before (3 : Fin 8) t d = blockAt m h c (3 : Fin 8) t :=
  before_of_kept m h c (3 : Fin 8) rfl (fun _ => rfl) (fun _ => rfl) t d
theorem before_4 (c : Dev nD) (t : Fin (cfgA m h).N) (d) : (dats m h 0 c).before (4 : Fin 8) t d = blockAt m h c (4 : Fin 8) t :=
  before_of_kept m h c (4 : Fin 8) rfl (fun _ => rfl) (fun _ => rfl) t d
theorem before_5 (c : Dev nD) (t : Fin (cfgA m h).N) (d) : (dats m h 0 c).before (5 : Fin 8) t d = blockAt m h c (5 : Fin 8) t :=
  before_of_kept m h c (5 : Fin 8) rfl (fun _ => rfl) (fun _ => rfl) t d
theorem before_6 (c : Dev nD) (t : Fin (cfgA m h).N) (d) : (dats m h 0 c).before (6 : Fin 8) t d = blockAt m h c (6 : Fin 8) t :=
  before_of_kept m h c (6 : Fin 8) rfl (fun _ => rfl) (fun _ => rfl) t d

/-! ## The body obligation -/

/-- The body at point `t`, as the pipeline calls it. -/
abbrev bodyAt (t : Fin (cfgA m h).N) : Prog (TpuEff nD τ sig (Elt F) Λ₀ .tc) PUnit :=
  cc0_moe_experts (crd m h t) tabLo (Memref.isWhole_whole _) tabHi (Memref.isWhole_whole _) tabRows (Memref.isWhole_whole _)
    (st0 m h t) (hstage0_0 (((cfgA m h).slots t (0 : Fin 8)).cast nbuf0_0)) (st1 m h t) (hstage0_1 (((cfgA m h).slots t (1 : Fin 8)).cast nbuf0_1))
    (st2 m h t) (hstage0_2 (((cfgA m h).slots t (2 : Fin 8)).cast nbuf0_2)) (st3 m h t) (hstage0_3 (((cfgA m h).slots t (3 : Fin 8)).cast nbuf0_3))
    (st4 m h t) (hstage0_4 (((cfgA m h).slots t (4 : Fin 8)).cast nbuf0_4)) (st5 m h t) (hstage0_5 (((cfgA m h).slots t (5 : Fin 8)).cast nbuf0_5))
    (st6 m h t) (hstage0_6 (((cfgA m h).slots t (6 : Fin 8)).cast nbuf0_6)) (st7 m h t) (hstage0_7 (((cfgA m h).slots t (7 : Fin 8)).cast nbuf0_7))

/-- The tables as the region hands them over, one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

set_option maxHeartbeats 4000000 in
theorem body_at (c : Dev nD) (t : Fin (cfgA m h).N) :
    iprop((dats m h 0 c).Φ t.castSucc ∗ (dats m h 0 c).owesAt () t.castSucc
        ∗ (∃ d, owns (c : Thread nD τ) (st0 m h t) fullShare ((dats m h 0 c).before (0 : Fin 8) t d))
        ∗ (∃ d, owns (c : Thread nD τ) (st1 m h t) fullShare ((dats m h 0 c).before (1 : Fin 8) t d))
        ∗ (∃ d, owns (c : Thread nD τ) (st2 m h t) fullShare ((dats m h 0 c).before (2 : Fin 8) t d))
        ∗ (∃ d, owns (c : Thread nD τ) (st3 m h t) fullShare ((dats m h 0 c).before (3 : Fin 8) t d))
        ∗ (∃ d, owns (c : Thread nD τ) (st4 m h t) fullShare ((dats m h 0 c).before (4 : Fin 8) t d))
        ∗ (∃ d, owns (c : Thread nD τ) (st5 m h t) fullShare ((dats m h 0 c).before (5 : Fin 8) t d))
        ∗ (∃ d, owns (c : Thread nD τ) (st6 m h t) fullShare ((dats m h 0 c).before (6 : Fin 8) t d))
        ∗ (∃ d, owns (c : Thread nD τ) (st7 m h t) fullShare ((dats m h 0 c).before (7 : Fin 8) t d)))
      ⊢ wp frame (wpE (defs₀ (F := F)) Variants.none c none) Set.univ (bodyAt m h t) fun _ =>
          iprop((dats m h 0 c).Φ t.succ ∗ (dats m h 0 c).owesAt () t.succ
            ∗ bigSep Finset.univ fun w : Fin (cfgA m h).W =>
                match (cfgA m h).idle w ((cfgA m h).grid.coords t) with
                | true =>
                  match ((cfgA m h).win w).flush t with
                  | false => iprop(∃ d, owns (c : Thread nD τ) (((cfgA m h).win w).stage ((cfgA m h).slots t w)) fullShare ((dats m h 0 c).before w t d))
                  | true => owns (c : Thread nD τ) (((cfgA m h).win w).stage ((cfgA m h).slots t w)) fullShare ((dats m h 0 c).after w t)
                | false => owns (c : Thread nD τ) (((cfgA m h).win w).stage ((cfgA m h).slots t w)) fullShare ((dats m h 0 c).after w t)) := by
  rw [bigSep_W0]
  have i7 : (cfgA m h).idle (7 : Fin 8) ((cfgA m h).grid.coords t) = false := not_idle (tables m) h (crd m h t)
  rewrite [i7]
  simp only [before_0, before_1, before_2, before_3, before_4, before_5, before_6, after_0, after_1, after_2, after_3, after_4, after_5,
    after_6, after_7]
  rewrite [show (dats m h 0 c).Φ t.succ = inv m h c from rfl, show (dats m h 0 c).Φ t.castSucc = inv m h c from rfl,
    show (dats m h 0 c).owesAt () t.succ = (dats m h 0 c).owesAt () t.castSucc from rfl]
  unfold inv Pipeline.ΦT
  rw [prefHeld_eq]
  iintro ⟨⟨HA, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (crd m h t) (st0 m h t) (hstage0_0 (((cfgA m h).slots t (0 : Fin 8)).cast nbuf0_0))
    (st1 m h t) (hstage0_1 (((cfgA m h).slots t (1 : Fin 8)).cast nbuf0_1)) (st2 m h t) (hstage0_2 (((cfgA m h).slots t (2 : Fin 8)).cast nbuf0_2))
    (st3 m h t) (hstage0_3 (((cfgA m h).slots t (3 : Fin 8)).cast nbuf0_3)) (st4 m h t) (hstage0_4 (((cfgA m h).slots t (4 : Fin 8)).cast nbuf0_4))
    (st5 m h t) (hstage0_5 (((cfgA m h).slots t (5 : Fin 8)).cast nbuf0_5)) (st6 m h t) (hstage0_6 (((cfgA m h).slots t (6 : Fin 8)).cast nbuf0_6))
    (st7 m h t) (hstage0_7 (((cfgA m h).slots t (7 : Fin 8)).cast nbuf0_7))
    (tables m 0) (tables m 1) (tables m 2) (blockAt m h c (0 : Fin 8) t) (blockAt m h c (1 : Fin 8) t) (blockAt m h c (2 : Fin 8) t)
    (blockAt m h c (3 : Fin 8) t) (blockAt m h c (4 : Fin 8) t) (blockAt m h c (5 : Fin 8) t) (blockAt m h c (6 : Fin 8) t)
    (tables m 2 (tileOf (crd m h t))) (liveRows_eq _ _) (one_branch (h.rows _)) _)
  unfold held
  isplitl [H0 H1 H2 H3 H4 H5 H6 HT0 HT1 HT2]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    isplitl [HT1]; · iexact HT1
    iexact HT2
  isplitl [H7]; · iexists _; iexact H7
  iintro ⟨⟨H0, H1, H2, H3, H4, H5, H6, HT0, HT1, HT2⟩, H7⟩
  unfold outAt
  isplitl [HA HT0 HT1 HT2]
  · isplitl [HA]; · iexact HA
    isplitl [HT0]; · iexact HT0
    isplitl [HT1]; · iexact HT1
    iexact HT2
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  iexact H7

theorem body_obligation (c : Dev nD) : BodyObligation (dats m h 0 c) (defs₀ (F := F)) Variants.none () Set.univ := fun t => by
  rw [bigSep_W0]
  exact body_at m h c t

/-! ## The run -/

set_option backward.isDefEq.respectTransparency.types false in
set_option maxHeartbeats 4000000 in
/-- From any memory whose tables are in range and zero counters, every weakly fair execution of @main terminates with every
    window's array at what the pipeline's proof data computes, every other buffer as at entry, and every counter at zero. -/
theorem run_main : θ_run (defs (F := F)) (onTc (τ := τ) (main (F := F))) ⟨m, fun _ => 0, ρ⟩ (fun r =>
    Pipeline.FramePost (Pipeline.pin (pcfgs (F := F)) fun _ => adm m h) (dats m h) 0 (entry m) r ∧ r.2.sem = fun _ => 0) :=
  Pipeline.θ_run_frameP_shared pcfgs (fun _ => adm m h) (dats m h) 0 launch₀0 defs₀ Variants.none m ρ main
    (hbody := fun c => (body_obligation m h c).loose)
    (hq := fun _ _ _ => rfl) (howed := fun _ _ => rfl)
    (V := entry m)
    (hmain := Pipeline.hmainP_prefix pcfgs 0 defs₀ Variants.none m main hostOps0 hostOps0_sub
      ⟨rfl, rfl, rfl, rfl, rfl, rfl⟩ main_chain)
    (hA := fun _ _ => rfl)
    (hpf := fun c k => by rw [Subsingleton.elim c 0]; rfl)
    (hΦ := fun _ _ => rfl)
    (Q' := _) (hQ' := fun _ h => h)

end Cert.Experts
-- ==== Proof.Kept.lean ====
module

public import proofs.«01_k».proof.Proof.Run
public import proofs.«01_k».proof.Proof.Gen.KernelIdeal

@[expose] public section

/-!
# The run, read at the arguments and the result

One run theorem for the kernel at any float values, and the same for its idealization, which is the same program.
-/

set_option maxRecDepth 65536
set_option Elab.async false

noncomputable section

namespace Cert.Experts

open Cert.Kernel Cert.Kernel.Gen
open Idealize.ShloMosaic
open Idealize.ShloMosaic.TcCoe Idealize.ShloMosaic.Tactic
open Idealize.SL.Sem

variable {F : FTy → Type} [FloatOps F]

variable (m : (ℓ : Loc nD τ sig) → Buf (Elt F) ℓ) (g : Dev nD → PrngReg) (h : Ranged m)

/-- What every run ends in: the result at the launch's output array, the arguments unchanged, the counters at zero. -/
abbrev Ends (r : PUnit × MemSt nD τ sig (Elt F)) : Prop :=
  (∀ c : Dev nD,
    r.2.mem ((c.tc : Thread nD τ).loc main_v6) = (dats m h 0 c).arrAt (7 : Fin 8) (cfgA m h).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6))
  ∧ r.2.sem = fun _ => 0

theorem run_ends : θ_run (defs (F := F)) (onTc (τ := τ) (main (F := F))) ⟨m, fun _ => 0, g⟩ (fun r => Ends m h r) :=
  (θ_run defs _ _).mono (fun r hr => ⟨fun c => by
    obtain ⟨hw, hb⟩ := hr.1 c
    have keep : ∀ b : Ref sig .tc, b ∈ Pipeline.restRefs sig spec0 → b ∉ [main_v0, main_v1, main_v2, main_v3, main_v4, main_v5] →
        r.2.mem ((c.tc : Thread nD τ).loc b) = m ((c.tc : Thread nD τ).loc b) :=
      fun b h1 h2 => (hb b h1).trans (entry_kept m c b h2)
    refine ⟨hw (7 : Fin 8), keep main_arg0 (by decide) (by decide), keep main_arg1 (by decide) (by decide), keep main_arg2 (by decide) (by decide),
      ?_, keep main_arg4 (by decide) (by decide), keep main_arg5 (by decide) (by decide), keep main_arg6 (by decide) (by decide)⟩
    exact ((hw (0 : Fin 8)).trans ((dats m h 0 c).arrAt_in (0 : Fin 8) rfl _)).trans (entry_kept m c main_arg3 (by decide)), hr.2⟩) (run_main m g h)

set_option maxHeartbeats 2000000 in
/-- The idealization runs as the kernel does. -/
theorem same_run (m : (ℓ : Loc Cert.KernelIdeal.nD Cert.KernelIdeal.τ Cert.KernelIdeal.sig) → Buf (Elt F) ℓ) (g : Dev nD → PrngReg) (Q) :
    θ_run (Cert.KernelIdeal.defs (F := F)) (onTc (τ := Cert.KernelIdeal.τ) (Cert.KernelIdeal.main (F := F))) ⟨m, fun _ => 0, g⟩ Q
      = θ_run (Cert.Kernel.defs (F := F)) (onTc (τ := Cert.Kernel.τ) (Cert.Kernel.main (F := F))) ⟨m, fun _ => 0, g⟩ Q := by
  sl_kernel_rfl

end Cert.Experts
-- ==== Proof.Blocks.lean ====
module

public import proofs.«01_k».proof.Proof.Run
public import Idealize.ShloMosaic.Lib.Pipeline.ValueKit
public import Idealize.ShloMosaic.Lib.Pipeline.Covers
public import Idealize.ShloMosaic.Lib.StableHlo.ReadAt

@[expose] public section

/-!
# The blocks, read off the arguments

Over the extended reals: the block of each input window at a point, element by element, in the program's arguments.
-/

set_option maxRecDepth 16384
set_option Elab.async false

noncomputable section

namespace Cert.Experts

open Cert.Kernel Cert.Kernel.Gen
open Idealize.ShloMosaic Idealize.ShloMosaic.TcCoe Idealize.SL.Sem
open Idealize.ShloMosaic.Pipeline (Dat Cfg Window)

variable (m : (ℓ : Loc nD τ sig) → Buf (Elt Ideal) ℓ) (h : Ranged m)

/-- The grid coordinate of a point. -/
def tileNo (t : Fin (cfgA m h).N) : Fin 496 := crd m h t 0

/-- Row `r` of a point's tile, as a row of the arrays. -/
def rowAt (t : Fin (cfgA m h).N) (r : Fin 256) : Fin 126976 := ⟨(tileNo m h t).val * 256 + r.val, by
  have := (tileNo m h t).isLt; omega⟩

theorem index_0 (t : Fin (cfgA m h).N) : ((cfgA m h).win (0 : Fin 8)).index t = ![(tileNo m h t).val, 0, 0] := by
  have hb : (tileNo m h t).val < 496 := (tileNo m h t).isLt
  show ![(BitVec.ofNat 32 (tileNo m h t).val).toNat, 0, 0] = _
  rw [BitVec.toNat_ofNat, Nat.mod_eq_of_lt (by omega)]

theorem index_7 (t : Fin (cfgA m h).N) : ((cfgA m h).win (7 : Fin 8)).index t = ![(tileNo m h t).val, 0, 0] := by
  have hb : (tileNo m h t).val < 496 := (tileNo m h t).isLt
  show ![(BitVec.ofNat 32 (tileNo m h t).val).toNat, 0, 0] = _
  rw [BitVec.toNat_ofNat, Nat.mod_eq_of_lt (by omega)]

/-- The weights' blocks are named by the tables. -/
theorem index_1 (t : Fin (cfgA m h).N) : ((cfgA m h).win (1 : Fin 8)).index t = ![(tables m 0 (tileOf (crd m h t))).toNat, 0, 0] :=
  transform_1_eq (tables m) (crd m h t)
theorem index_4 (t : Fin (cfgA m h).N) : ((cfgA m h).win (4 : Fin 8)).index t = ![(tables m 1 (tileOf (crd m h t))).toNat, 0, 0] :=
  transform_4_eq (tables m) (crd m h t)

theorem block_0 (c : Dev nD) (t : Fin (cfgA m h).N) (r : Fin 256) (q : Fin 16) (l : Fin 128) :
    blockAt m h c (0 : Fin 8) t (ix3 r q l) = m ((c.tc : Thread nD τ).loc main_arg3) (ix3 (rowAt m h t r) q l) := by
  show entry m c main_arg3 ((((cfgA m h).win (0 : Fin 8)).rect t).emb (ix3 r q l)) = _
  rw [entry_kept m c main_arg3 (by decide)]
  refine congrArg (m _) (funext fun a => Fin.ext ?_)
  refine (Window.rect_emb_val ((cfgA m h).win (0 : Fin 8)) t (ix3 r q l) a rfl).trans ?_
  rw [index_0]
  fin_cases a
  · rfl
  · exact Nat.zero_add _
  · exact Nat.zero_add _

/-! The weights as the host operations leave them: the arguments, reshaped. -/

theorem entry_v1 (c : Dev nD) (e : Fin 32) (k : Fin 1024) (j : Fin 512) :
    entry m c main_v1 (ix3 e k j) = m ((c.tc : Thread nD τ).loc main_arg4) (ix4 0 e k j) := by
  unfold entry
  after_reads_at
theorem entry_v3 (c : Dev nD) (e : Fin 32) (k : Fin 1024) (j : Fin 512) :
    entry m c main_v3 (ix3 e k j) = m ((c.tc : Thread nD τ).loc main_arg5) (ix4 0 e k j) := by
  unfold entry
  after_reads_at
theorem entry_v5 (c : Dev nD) (e : Fin 32) (j : Fin 512) (n : Fin 1024) :
    entry m c main_v5 (ix3 e j n) = m ((c.tc : Thread nD τ).loc main_arg6) (ix4 0 e j n) := by
  unfold entry
  after_reads_at

/-- The tile's two experts. -/
def loOf (t : Fin (cfgA m h).N) : Fin 32 := ⟨(tables m 0 (tileOf (crd m h t))).toNat, h.lo _⟩
def hiOf (t : Fin (cfgA m h).N) : Fin 32 := ⟨(tables m 1 (tileOf (crd m h t))).toNat, h.hi _⟩

theorem block_1 (c : Dev nD) (t : Fin (cfgA m h).N) (k : Fin 1024) (j : Fin 512) :
    blockAt m h c (1 : Fin 8) t (ix3 0 k j) = m ((c.tc : Thread nD τ).loc main_arg4) (ix4 0 (loOf m h t) k j) := by
  show entry m c main_v1 ((((cfgA m h).win (1 : Fin 8)).rect t).emb (ix3 0 k j)) = _
  refine Eq.trans (congrArg (entry m c main_v1) (funext fun a => Fin.ext ?_)) (entry_v1 m c (loOf m h t) k j)
  refine (Window.rect_emb_val ((cfgA m h).win (1 : Fin 8)) t (ix3 0 k j) a rfl).trans ?_
  rw [index_1]
  fin_cases a
  · exact Nat.mul_one _
  · exact Nat.zero_add _
  · exact Nat.zero_add _
theorem block_2 (c : Dev nD) (t : Fin (cfgA m h).N) (k : Fin 1024) (j : Fin 512) :
    blockAt m h c (2 : Fin 8) t (ix3 0 k j) = m ((c.tc : Thread nD τ).loc main_arg5) (ix4 0 (loOf m h t) k j) := by
  show entry m c main_v3 ((((cfgA m h).win (2 : Fin 8)).rect t).emb (ix3 0 k j)) = _
  refine Eq.trans (congrArg (entry m c main_v3) (funext fun a => Fin.ext ?_)) (entry_v3 m c (loOf m h t) k j)
  refine (Window.rect_emb_val ((cfgA m h).win (2 : Fin 8)) t (ix3 0 k j) a rfl).trans ?_
  rw [show ((cfgA m h).win (2 : Fin 8)).index t = _ from index_1 m h t]
  fin_cases a
  · exact Nat.mul_one _
  · exact Nat.zero_add _
  · exact Nat.zero_add _
theorem block_3 (c : Dev nD) (t : Fin (cfgA m h).N) (j : Fin 512) (n : Fin 1024) :
    blockAt m h c (3 : Fin 8) t (ix3 0 j n) = m ((c.tc : Thread nD τ).loc main_arg6) (ix4 0 (loOf m h t) j n) := by
  show entry m c main_v5 ((((cfgA m h).win (3 : Fin 8)).rect t).emb (ix3 0 j n)) = _
  refine Eq.trans (congrArg (entry m c main_v5) (funext fun a => Fin.ext ?_)) (entry_v5 m c (loOf m h t) j n)
  refine (Window.rect_emb_val ((cfgA m h).win (3 : Fin 8)) t (ix3 0 j n) a rfl).trans ?_
  rw [show ((cfgA m h).win (3 : Fin 8)).index t = _ from index_1 m h t]
  fin_cases a
  · exact Nat.mul_one _
  · exact Nat.zero_add _
  · exact Nat.zero_add _
theorem block_4 (c : Dev nD) (t : Fin (cfgA m h).N) (k : Fin 1024) (j : Fin 512) :
    blockAt m h c (4 : Fin 8) t (ix3 0 k j) = m ((c.tc : Thread nD τ).loc main_arg4) (ix4 0 (hiOf m h t) k j) := by
  show entry m c main_v1 ((((cfgA m h).win (4 : Fin 8)).rect t).emb (ix3 0 k j)) = _
  refine Eq.trans (congrArg (entry m c main_v1) (funext fun a => Fin.ext ?_)) (entry_v1 m c (hiOf m h t) k j)
  refine (Window.rect_emb_val ((cfgA m h).win (4 : Fin 8)) t (ix3 0 k j) a rfl).trans ?_
  rw [index_4]
  fin_cases a
  · exact Nat.mul_one _
  · exact Nat.zero_add _
  · exact Nat.zero_add _
theorem block_5 (c : Dev nD) (t : Fin (cfgA m h).N) (k : Fin 1024) (j : Fin 512) :
    blockAt m h c (5 : Fin 8) t (ix3 0 k j) = m ((c.tc : Thread nD τ).loc main_arg5) (ix4 0 (hiOf m h t) k j) := by
  show entry m c main_v3 ((((cfgA m h).win (5 : Fin 8)).rect t).emb (ix3 0 k j)) = _
  refine Eq.trans (congrArg (entry m c main_v3) (funext fun a => Fin.ext ?_)) (entry_v3 m c (hiOf m h t) k j)
  refine (Window.rect_emb_val ((cfgA m h).win (5 : Fin 8)) t (ix3 0 k j) a rfl).trans ?_
  rw [show ((cfgA m h).win (5 : Fin 8)).index t = _ from index_4 m h t]
  fin_cases a
  · exact Nat.mul_one _
  · exact Nat.zero_add _
  · exact Nat.zero_add _
theorem block_6 (c : Dev nD) (t : Fin (cfgA m h).N) (j : Fin 512) (n : Fin 1024) :
    blockAt m h c (6 : Fin 8) t (ix3 0 j n) = m ((c.tc : Thread nD τ).loc main_arg6) (ix4 0 (hiOf m h t) j n) := by
  show entry m c main_v5 ((((cfgA m h).win (6 : Fin 8)).rect t).emb (ix3 0 j n)) = _
  refine Eq.trans (congrArg (entry m c main_v5) (funext fun a => Fin.ext ?_)) (entry_v5 m c (hiOf m h t) j n)
  refine (Window.rect_emb_val ((cfgA m h).win (6 : Fin 8)) t (ix3 0 j n) a rfl).trans ?_
  rw [show ((cfgA m h).win (6 : Fin 8)).index t = _ from index_4 m h t]
  fin_cases a
  · exact Nat.mul_one _
  · exact Nat.zero_add _
  · exact Nat.zero_add _

/-- Every block of the output array is some tile's. -/
theorem covers : ((cfgA m h).win (7 : Fin 8)).Covers :=
  ((cfgA m h).win (7 : Fin 8)).covers_of_index_surj rfl (fun a => by fin_cases a <;> exact Nat.succ_pos _) fun β => by
    obtain ⟨t, ht⟩ := (cfgA m h).grid.coords_surjective (fun a => ⟨(β 0).val, by
      have hb : (β 0).val < 496 := Nat.lt_of_lt_of_eq (β 0).isLt (show (126976 + 256 - 1) / 256 = 496 by decide)
      fin_cases a; exact hb⟩)
    refine ⟨t, fun a => ?_⟩
    rw [index_7]
    have h0 : (tileNo m h t).val = (β 0).val := by
      unfold tileNo crd
      rw [ht]
    fin_cases a
    · exact h0
    · have hb : (β 1).val < 1 := Nat.lt_of_lt_of_eq (β 1).isLt (show (8 + 8 - 1) / 8 = 1 by decide)
      show 0 = (β 1).val
      omega
    · have hb : (β 2).val < 1 := Nat.lt_of_lt_of_eq (β 2).isLt (show (128 + 128 - 1) / 128 = 1 by decide)
      show 0 = (β 2).val
      omega

/-- An element of a tile's output block sits at its row of the array. -/
theorem emb_7 (t : Fin (cfgA m h).N) (r : Fin 256) (s : Fin 8) (l : Fin 128) :
    (((cfgA m h).win (7 : Fin 8)).blk t).view.emb (ix3 r s l) = ix3 (rowAt m h t r) s l := by
  funext a
  apply Fin.ext
  refine (Window.rect_emb_val ((cfgA m h).win (7 : Fin 8)) t (ix3 r s l) a rfl).trans ?_
  rw [index_7]
  fin_cases a
  · rfl
  · exact Nat.zero_add _
  · exact Nat.zero_add _

end Cert.Experts
-- ==== Proof.Gated.lean ====
module

public import Idealize.ShloMosaic.Lib.Pipeline.ValueKit

@[expose] public section

/-!
# One row through one expert

The gated product of a row with one expert over the extended reals, and the weighted sum over all experts of which two
have a weight.
-/

noncomputable section

namespace Cert.Experts

open Idealize.ShloMosaic

/-- The gated product of one row with one expert, at one output lane: `(silu (x · g) * (x · u)) · d`. -/
def gated (x : Fin 1024 → EReal) (g u : Fin 1024 → Fin 512 → EReal) (d : Fin 512 → EReal) : EReal :=
  ∑ j, (∑ k, x k * g k j) * Ideal.logistic (∑ k, x k * g k j) * (∑ k, x k * u k j) * d j

/-- Lane `l` of chunk `s`, as a column of 1024. -/
def lane (s : Fin 8) (l : Fin 128) : Fin 1024 := ⟨s * 128 + l, by omega⟩

/-- Column `k` of a row kept in sixteen chunks of 128: its chunk and its lane. -/
def chunk (k : Fin 1024) : Fin 16 := ⟨k / 128, by omega⟩
def within (k : Fin 1024) : Fin 128 := ⟨k % 128, by omega⟩

/-- Weights that are one expert's indicator: `1` at the expert whose number is the word `t`, `0` elsewhere. -/
def hotAt (t : BitVec 32) (e : Fin 32) : EReal := if t = BitVec.ofNat 32 e then 1 else 0

/-- The expert whose number is a word below 32. -/
def expertOf (t : BitVec 32) (h : t.toNat < 32) : Fin 32 := ⟨t.toNat, h⟩

theorem hotAt_eq (t : BitVec 32) (h : t.toNat < 32) (e : Fin 32) : hotAt t e = if expertOf t h = e then 1 else 0 := by
  have : t = BitVec.ofNat 32 e ↔ expertOf t h = e := by
    have he := e.isLt
    constructor
    · intro ht
      apply Fin.ext
      show t.toNat = e
      rw [ht, BitVec.toNat_ofNat]
      omega
    · intro ht
      apply BitVec.eq_of_toNat_eq
      rw [BitVec.toNat_ofNat, ← ht]
      show t.toNat = t.toNat % 2 ^ 32
      omega
  unfold hotAt
  simp only [this]

/-- Of the sum over all experts the two with a weight remain. -/
theorem sum_two (p q : Fin 32) (hpq : p ≠ q) (a b : EReal) (y : Fin 32 → EReal) :
    ∑ e, ((if p = e then (1 : EReal) else 0) * a + (if q = e then (1 : EReal) else 0) * b) * y e = a * y p + b * y q := by
  have : ∀ e, ((if p = e then (1 : EReal) else 0) * a + (if q = e then (1 : EReal) else 0) * b) * y e
      = (if p = e then a * y e else 0) + (if q = e then b * y e else 0) := by
    intro e
    by_cases h1 : p = e
    · have h2 : q ≠ e := fun h => hpq (h1.trans h.symm)
      simp only [h1, h2, if_true, if_false, one_mul, zero_mul, add_zero]
    · by_cases h2 : q = e
      · simp only [h1, h2, if_true, if_false, one_mul, zero_mul, zero_add]
      · simp only [h1, h2, if_false, zero_mul, add_zero]
  rw [Finset.sum_congr rfl fun e _ => this e, Finset.sum_add_distrib, Finset.sum_ite_eq, Finset.sum_ite_eq]
  simp

end Cert.Experts
-- ==== Proof.Tile.lean ====
module

public import proofs.«01_k».proof.Proof.Body
public import proofs.«01_k».proof.Proof.Gated
public import Idealize.ShloMosaic.Lib.Pipeline.ValueKit

@[expose] public section

/-!
# What one tile computes

Over the extended reals, a tile's block is the weighted sum of its two experts' gated products, entry by entry.
-/

set_option maxRecDepth 16384

noncomputable section

namespace Cert.Experts

open Cert.Kernel Cert.Kernel.Gen
open Idealize.ShloMosaic Idealize.ShloMosaic.TcCoe Idealize.SL.Sem

theorem read_chunk (x : FVec Ideal S256x16x128 .bf16) (r : Fin 256) (l : Fin 128) (n : ℕ) (c : Fin 16) (h1 : n / 128 < 16) (h2 : n % 128 < 128)
    (h : n = c * 128 + l) : x (ix3 r ⟨n / 128, h1⟩ ⟨n % 128, h2⟩) = x (ix3 r c l) := by
  have e1 : (⟨n / 128, h1⟩ : Fin 16) = c := Fin.ext (by show n / 128 = c; omega)
  have e2 : (⟨n % 128, h2⟩ : Fin 128) = l := Fin.ext (by show n % 128 = l; omega)
  rw [e1, e2]

theorem read_chunk_lane (x : FVec Ideal S256x16x128 .bf16) (r : Fin 256) (l : Fin 128) (n : ℕ) (c : Fin 16) (h1 : n / 128 < 16)
    (h : n = c * 128 + l) : x (ix3 r ⟨n / 128, h1⟩ l) = x (ix3 r c l) := by
  have e1 : (⟨n / 128, h1⟩ : Fin 16) = c := Fin.ext (by show n / 128 = c; omega)
  rw [e1]

set_option maxHeartbeats 1000000 in
theorem tileSum_apply (x : FVec Ideal S256x16x128 .bf16) (g1 u1 : FVec Ideal S1x1024x512 .bf16) (d1 : FVec Ideal S1x512x1024 .bf16)
    (g2 u2 : FVec Ideal S1x1024x512 .bf16) (d2 : FVec Ideal S1x512x1024 .bf16) (r : Fin 256) (s : Fin 8) (l : Fin 128) :
    tileSum (F := Ideal) x g1 u1 d1 g2 u2 d2 (ix3 r s l) =
      ((x (ix3 r 8 l) + x (ix3 r 9 l) : EReal)) * gated (fun k => x (ix3 r (chunk k) (within k))) (fun k j => g1 (ix3 0 k j)) (fun k j => u1 (ix3 0 k j))
          (fun j => d1 (ix3 0 j (lane s l)))
      + ((x (ix3 r 10 l) + x (ix3 r 11 l) : EReal)) * gated (fun k => x (ix3 r (chunk k) (within k))) (fun k j => g2 (ix3 0 k j)) (fun k j => u2 (ix3 0 k j))
          (fun j => d2 (ix3 0 j (lane s l))) := by
  unfold tileSum
  pointwise [k0_pay1, k0_pay3, k0_pay4, k0_pay5, k0_pay6, k0_pay7, k0_pay8]
  refine congr_arg₂ (fun a b : EReal => a + b) (congr_arg₂ (fun a b : EReal => a * b) ?_ rfl) (congr_arg₂ (fun a b : EReal => a * b) ?_ rfl)
  all_goals
    split_ifs <;>
    first
    | exact congr_arg₂ (fun a b : EReal => a + b) (read_chunk x r l _ _ _ _ (by omega)) (read_chunk x r l _ _ _ _ (by omega))
    | exact congr_arg₂ (fun a b : EReal => a + b) (read_chunk_lane x r l _ _ _ (by omega)) (read_chunk_lane x r l _ _ _ (by omega))

end Cert.Experts
-- ==== Proof.Dense.lean ====
module

public import proofs.«01_k».proof.Proof.Gated
public import proofs.«01_k».proof.Proof.Gen.ReferenceIdeal.Run

@[expose] public section

/-!
# What the reference computes

Every row through every expert, weighted by the row's two indicators. The reference's term is cut at its layers and each is read
at an index.
-/

set_option maxRecDepth 16384

noncomputable section

namespace Cert.Experts

open Cert.ReferenceIdeal Cert.ReferenceIdeal.Gen
open Idealize.ShloMosaic Idealize.ShloMosaic.TcCoe Idealize.SL.Sem

/-- The rows' inputs: the first eight chunks. -/
def rowsOf (X : FVec Ideal S126976x16x128 .bf16) : FVec Ideal S126976x1024 .f32 :=
  shapeCast _ (extractStridedSlice S126976x8x128 ![0, 0, 0] (extf .f32 X bitsLt_bf16_f32) slices_S126976x16x128_S126976x8x128_0_0_0)
    shapeCasts_S126976x8x128_S126976x1024

theorem rowsOf_apply (X : FVec Ideal S126976x16x128 .bf16) (r : Fin 126976) (k : Fin 1024) :
    rowsOf X (ix2 r k) = X (ix3 r (chunk k) (within k)) := by
  pointwise [rowsOf]
  rfl

/-- Every row times every expert's input matrix. -/
def proj (X : FVec Ideal S126976x1024 .f32) (W : FVec Ideal S1x32x1024x512 .f32) : FVec Ideal S32x126976x512 .f32 :=
  transpose S32x126976x512 [0, 2, 1] (Host.dotGeneral dot_S32x1024x512_S126976x1024_S32x512x126976_1_1_02_0_n_n none
    (shapeCast _ W shapeCasts_S1x32x1024x512_S32x1024x512) X) transposes_S32x512x126976_S32x126976x512_0_2_1

theorem proj_apply (X : FVec Ideal S126976x1024 .f32) (W : FVec Ideal S1x32x1024x512 .f32) (e : Fin 32) (r : Fin 126976)
    (j : Fin 512) : proj X W (ix3 e r j) = ∑ k, (X (ix2 r k) : EReal) * W (ix4 0 e k j) := by
  pointwise [proj]
  exact Finset.sum_congr rfl fun k _ => mul_comm _ _

/-- The gate. -/
def hiddenOf (G U : FVec Ideal S32x126976x512 .f32) : FVec Ideal S32x126976x512 .f32 :=
  mulf (mulf G (Host.divf (broadcastInDim S32x126976x512 ![] bcast_S_S32x126976x512 (constant S_ .f32 0x3F800000#32))
    (addf (broadcastInDim S32x126976x512 ![] bcast_S_S32x126976x512 (constant S_ .f32 0x3F800000#32)) (Host.exp (Host.negf G))))) U

theorem hiddenOf_apply (G U : FVec Ideal S32x126976x512 .f32) (e : Fin 32) (r : Fin 126976) (j : Fin 512) :
    hiddenOf G U (ix3 e r j) = (G (ix3 e r j) * Ideal.logistic (G (ix3 e r j)) * U (ix3 e r j) : EReal) := by
  pointwise [hiddenOf]
  rfl

/-- Every row times every expert's output matrix. -/
def down (H : FVec Ideal S32x126976x512 .f32) (W : FVec Ideal S1x32x512x1024 .f32) : FVec Ideal S32x126976x8x128 .f32 :=
  shapeCast _ (Host.dotGeneral dot_S32x126976x512_S32x512x1024_S32x126976x1024_2_1_1_2_0_0 none H
    (shapeCast _ W shapeCasts_S1x32x512x1024_S32x512x1024)) shapeCasts_S32x126976x1024_S32x126976x8x128

theorem down_apply (H : FVec Ideal S32x126976x512 .f32) (W : FVec Ideal S1x32x512x1024 .f32) (e : Fin 32) (r : Fin 126976)
    (s : Fin 8) (l : Fin 128) : down H W (ix4 e r s l) = ∑ j, (H (ix3 e r j) : EReal) * W (ix4 0 e j (lane s l)) := by
  pointwise [down]
  rfl

/-- A table's word at each row of its tile. -/
def perRow (T : IVec S496 32) : IVec S126976 32 :=
  shapeCast _ (broadcastInDim S496x256 ![0, 1] bcast_S496x1_S496x256_0_1 (broadcastInDim S496x1 ![0] bcast_S496_S496x1_0 T))
    shapeCasts_S496x256_S126976

/-- The tile of a row. -/
def tileRow (r : Fin 126976) : Fin 496 := ⟨r / 256, by omega⟩

theorem perRow_apply (T : IVec S496 32) (r : Fin 126976) : perRow T (ix1 r) = T (ix1 (tileRow r)) := by
  pointwise [perRow]
  rfl

/-- The rows' indicators over the experts. -/
def hot (T : IVec S126976 32) : FVec Ideal S126976x32 .f32 :=
  sitofp .f32 (extui 32 (cmpi .eq (broadcastInDim S126976x32 ![0, 1] bcast_S126976x1_S126976x32_0_1
    (broadcastInDim S126976x1 ![0] bcast_S126976_S126976x1_0 T)) (broadcastInDim S126976x32 ![0, 1] bcast_S1x32_S126976x32_0_1
      (broadcastInDim S1x32 ![1] bcast_S32_S1x32_1 (iotaInDim S32 32 0)))) natLt_1_32)

theorem hot_apply (T : IVec S126976 32) (r : Fin 126976) (e : Fin 32) : hot T (ix2 r e) = hotAt (T (ix1 r)) e := by
  pointwise [hot]
  show (((BitVec.setWidth 32 (IntOp.cmpi CmpIPredicate.eq (T (ix1 r)) (BitVec.ofNat 32 e))).toInt : ℝ) : EReal) = _
  unfold hotAt
  by_cases h : T (ix1 r) = BitVec.ofNat 32 e
  · rw [if_pos h, h]
    simp [IntOp.cmpi]
  · rw [if_neg h]
    have : IntOp.cmpi CmpIPredicate.eq (T (ix1 r)) (BitVec.ofNat 32 e) = 0#1 := by
      show BitVec.ofBool (T (ix1 r) == BitVec.ofNat 32 e) = 0#1
      rw [beq_eq_false_iff_ne.mpr h]
      rfl
    rw [this]
    simp

/-- The rows' two weights: each the sum of two chunks. -/
def weightLo (X : FVec Ideal S126976x16x128 .bf16) : FVec Ideal S126976x128 .f32 :=
  addf (shapeCast _ (extractStridedSlice S126976x1x128 ![0, 8, 0] (extf .f32 X bitsLt_bf16_f32)
      slices_S126976x16x128_S126976x1x128_0_8_0) shapeCasts_S126976x1x128_S126976x128)
    (shapeCast _ (extractStridedSlice S126976x1x128 ![0, 9, 0] (extf .f32 X bitsLt_bf16_f32)
      slices_S126976x16x128_S126976x1x128_0_9_0) shapeCasts_S126976x1x128_S126976x128)

def weightHi (X : FVec Ideal S126976x16x128 .bf16) : FVec Ideal S126976x128 .f32 :=
  addf (shapeCast _ (extractStridedSlice S126976x1x128 ![0, 10, 0] (extf .f32 X bitsLt_bf16_f32)
      slices_S126976x16x128_S126976x1x128_0_10_0) shapeCasts_S126976x1x128_S126976x128)
    (shapeCast _ (extractStridedSlice S126976x1x128 ![0, 11, 0] (extf .f32 X bitsLt_bf16_f32)
      slices_S126976x16x128_S126976x1x128_0_11_0) shapeCasts_S126976x1x128_S126976x128)

theorem weightLo_apply (X : FVec Ideal S126976x16x128 .bf16) (r : Fin 126976) (l : Fin 128) :
    weightLo X (ix2 r l) = (X (ix3 r 8 l) + X (ix3 r 9 l) : EReal) := by
  pointwise [weightLo]

theorem weightHi_apply (X : FVec Ideal S126976x16x128 .bf16) (r : Fin 126976) (l : Fin 128) :
    weightHi X (ix2 r l) = (X (ix3 r 10 l) + X (ix3 r 11 l) : EReal) := by
  pointwise [weightHi]

/-- An indicator times a weight. -/
def share (A : FVec Ideal S126976x32 .f32) (w : FVec Ideal S126976x128 .f32) : FVec Ideal S126976x32x128 .f32 :=
  mulf (broadcastInDim S126976x32x128 ![0, 1, 2] bcast_S126976x32x1_S126976x32x128_0_1_2
      (broadcastInDim S126976x32x1 ![0, 1] bcast_S126976x32_S126976x32x1_0_1 A))
    (broadcastInDim S126976x32x128 ![0, 1, 2] bcast_S126976x1x128_S126976x32x128_0_1_2
      (broadcastInDim S126976x1x128 ![0, 2] bcast_S126976x128_S126976x1x128_0_2 w))

theorem share_apply (A : FVec Ideal S126976x32 .f32) (w : FVec Ideal S126976x128 .f32) (r : Fin 126976) (e : Fin 32) (l : Fin 128) :
    share A w (ix3 r e l) = (A (ix2 r e) * w (ix2 r l) : EReal) := by
  pointwise [share]

/-- The weighted sum over the experts. -/
def summed (G : FVec Ideal S126976x32x128 .f32) (Y : FVec Ideal S32x126976x8x128 .f32) : FVec Ideal S126976x8x128 .f32 :=
  Host.reduceAdd (mulf (broadcastInDim S32x126976x8x128 ![0, 1, 2, 3] bcast_S32x126976x1x128_S32x126976x8x128_0_1_2_3
    (broadcastInDim S32x126976x1x128 ![0, 1, 3] bcast_S32x126976x128_S32x126976x1x128_0_1_3
      (transpose S32x126976x128 [1, 0, 2] G transposes_S126976x32x128_S32x126976x128_1_0_2))) Y)
    (constant S_ .f32 0x00000000#32) reducesTo_S32x126976x8x128_S126976x8x128_d0 h_S_

theorem summed_apply (G : FVec Ideal S126976x32x128 .f32) (Y : FVec Ideal S32x126976x8x128 .f32) (r : Fin 126976) (s : Fin 8)
    (l : Fin 128) : summed G Y (ix3 r s l) = ∑ e, (G (ix3 r e l) : EReal) * Y (ix4 e r s l) := by
  pointwise [summed]

/-- Rows of a tile without live rows are zero. -/
def masked (T : IVec S126976 32) (Y : FVec Ideal S126976x8x128 .f32) : FVec Ideal S126976x8x128 .f32 :=
  select (broadcastInDim S126976x8x128 ![0, 1, 2] bcast_S126976x1x1_S126976x8x128_0_1_2
    (cmpi .sgt (broadcastInDim S126976x1x1 ![0] bcast_S126976_S126976x1x1_0 T)
      (broadcastInDim S126976x1x1 ![] bcast_S_S126976x1x1 (constantI S_ 32 0#32)))) Y
    (broadcastInDim S126976x8x128 ![] bcast_S_S126976x8x128 (id (constant S_ .f32 0x00000000#32)))

theorem masked_apply (T : IVec S126976 32) (Y : FVec Ideal S126976x8x128 .f32) (r : Fin 126976) (s : Fin 8) (l : Fin 128) :
    masked T Y (ix3 r s l) = (if IntOp.cmpi .sgt (T (ix1 r)) 0#32 = 1#1 then Y (ix3 r s l) else 0 : EReal) := by
  pointwise [masked]
  unfold Scalar.select
  refine if_congr Iff.rfl rfl ?_
  unfold id
  pointwise

/-- The reference as a function of its arguments. -/
def dense (lo hi rows : IVec S496 32) (X : FVec Ideal S126976x16x128 .bf16) (Wg Wu : FVec Ideal S1x32x1024x512 .f32)
    (Wd : FVec Ideal S1x32x512x1024 .f32) : FVec Ideal S126976x8x128 .f32 :=
  masked (perRow rows) (summed (addf (share (hot (perRow lo)) (weightLo X)) (share (hot (perRow hi)) (weightHi X)))
    (down (hiddenOf (proj (rowsOf X) Wg) (proj (rowsOf X) Wu)) Wd))

theorem out_eq_dense (m : (ℓ : Loc nD τ sig) → Buf (Elt Ideal) ℓ) (c : Dev nD) : Value.res_out0 m c =
    dense (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := rfl

/-- One entry: the row through every expert, weighted. -/
theorem dense_sum (lo hi rows : IVec S496 32) (X : FVec Ideal S126976x16x128 .bf16) (Wg Wu : FVec Ideal S1x32x1024x512 .f32)
    (Wd : FVec Ideal S1x32x512x1024 .f32) (r : Fin 126976) (s : Fin 8) (l : Fin 128) :
    dense lo hi rows X Wg Wu Wd (ix3 r s l) =
      (if IntOp.cmpi .sgt (rows (ix1 (tileRow r))) 0#32 = 1#1 then
        ∑ e, (hotAt (lo (ix1 (tileRow r))) e * (X (ix3 r 8 l) + X (ix3 r 9 l)) + hotAt (hi (ix1 (tileRow r))) e * (X (ix3 r 10 l) + X (ix3 r 11 l)))
          * gated (fun k => X (ix3 r (chunk k) (within k))) (fun k j => Wg (ix4 0 e k j)) (fun k j => Wu (ix4 0 e k j))
              (fun j => Wd (ix4 0 e j (lane s l)))
      else 0 : EReal) := by
  unfold dense
  rw [masked_apply, perRow_apply, summed_apply]
  refine if_congr Iff.rfl (Finset.sum_congr rfl fun e _ => congr_arg₂ (fun a b : EReal => a * b) ?_ ?_) rfl
  · show (share _ _ (ix3 r e l) + share _ _ (ix3 r e l) : EReal) = _
    rw [share_apply, share_apply, hot_apply, hot_apply, perRow_apply, perRow_apply, weightLo_apply, weightHi_apply]
  · rw [down_apply]
    unfold gated
    refine Finset.sum_congr rfl fun j _ => congr_arg₂ (fun a b : EReal => a * b) ?_ rfl
    rw [hiddenOf_apply, proj_apply, proj_apply]
    simp only [rowsOf_apply]

/-- One entry, the two experts of the row's tile being different: the weighted sum of the two. -/
theorem dense_apply (lo hi rows : IVec S496 32) (X : FVec Ideal S126976x16x128 .bf16) (Wg Wu : FVec Ideal S1x32x1024x512 .f32)
    (Wd : FVec Ideal S1x32x512x1024 .f32) (r : Fin 126976) (s : Fin 8) (l : Fin 128) (hl : (lo (ix1 (tileRow r))).toNat < 32)
    (hh : (hi (ix1 (tileRow r))).toNat < 32) (hlh : (lo (ix1 (tileRow r))).toNat < (hi (ix1 (tileRow r))).toNat) :
    dense lo hi rows X Wg Wu Wd (ix3 r s l) =
      (if IntOp.cmpi .sgt (rows (ix1 (tileRow r))) 0#32 = 1#1 then
        (X (ix3 r 8 l) + X (ix3 r 9 l)) * gated (fun k => X (ix3 r (chunk k) (within k))) (fun k j => Wg (ix4 0 (expertOf _ hl) k j))
            (fun k j => Wu (ix4 0 (expertOf _ hl) k j)) (fun j => Wd (ix4 0 (expertOf _ hl) j (lane s l)))
        + (X (ix3 r 10 l) + X (ix3 r 11 l)) * gated (fun k => X (ix3 r (chunk k) (within k))) (fun k j => Wg (ix4 0 (expertOf _ hh) k j))
            (fun k j => Wu (ix4 0 (expertOf _ hh) k j)) (fun j => Wd (ix4 0 (expertOf _ hh) j (lane s l)))
      else 0 : EReal) := by
  rw [dense_sum]
  refine if_congr Iff.rfl ?_ rfl
  simp only [hotAt_eq _ hl, hotAt_eq _ hh]
  exact sum_two _ _ (fun h => by have := congrArg Fin.val h; exact absurd this (by show ¬ (_ = _); exact Nat.ne_of_lt hlh)) _ _
    (fun e => gated (fun k => X (ix3 r (chunk k) (within k))) (fun k j => Wg (ix4 0 e k j)) (fun k j => Wu (ix4 0 e k j))
      (fun j => Wd (ix4 0 e j (lane s l))))

end Cert.Experts
-- ==== Proof.Final.lean ====
module

public import proofs.«01_k».proof.Proof.Blocks
public import proofs.«01_k».proof.Proof.Tile
public import proofs.«01_k».proof.Proof.Dense

@[expose] public section

/-!
# The equation

Over the extended reals the array the launch leaves is the reference's, entry by entry.
-/

set_option maxRecDepth 16384
set_option Elab.async false

noncomputable section

namespace Cert.Experts

open Cert.Kernel Cert.Kernel.Gen
open Idealize.ShloMosaic Idealize.ShloMosaic.TcCoe Idealize.SL.Sem
open Idealize.ShloMosaic.Pipeline (Dat Cfg Window)

variable (m : (ℓ : Loc nD τ sig) → Buf (Elt Ideal) ℓ) (h : Ranged m)

/-- The reference's function of the arguments, at the launch memory. -/
def denseOf (c : Dev nD) : FVec Ideal S126976x8x128 .f32 :=
  dense (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

theorem tileRow_rowAt (t : Fin (cfgA m h).N) (r : Fin 256) : tileRow (rowAt m h t r) = tileNo m h t :=
  Fin.ext (by show ((tileNo m h t).val * 256 + r.val) / 256 = (tileNo m h t).val; omega)

theorem tileOf_eq (t : Fin (cfgA m h).N) : tileOf (crd m h t) = ix1 (tileNo m h t) := by
  funext a
  fin_cases a
  rfl

/-- The tables are the arguments. -/
theorem tables_0 (c : Dev nD) : tables m 0 = m ((c.tc : Thread nD τ).loc main_arg0) := by
  rw [Subsingleton.elim c 0]; exact entry_kept m 0 main_arg0 (by decide)
theorem tables_1 (c : Dev nD) : tables m 1 = m ((c.tc : Thread nD τ).loc main_arg1) := by
  rw [Subsingleton.elim c 0]; exact entry_kept m 0 main_arg1 (by decide)
theorem tables_2 (c : Dev nD) : tables m 2 = m ((c.tc : Thread nD τ).loc main_arg2) := by
  rw [Subsingleton.elim c 0]; exact entry_kept m 0 main_arg2 (by decide)

/-- The arguments at their types. -/
abbrev rowsIn (c : Dev nD) : FVec Ideal S126976x16x128 .bf16 := m ((c.tc : Thread nD τ).loc main_arg3)
abbrev weights4 (c : Dev nD) : FVec Ideal S1x32x1024x512 .f32 := m ((c.tc : Thread nD τ).loc main_arg4)
abbrev weights5 (c : Dev nD) : FVec Ideal S1x32x1024x512 .f32 := m ((c.tc : Thread nD τ).loc main_arg5)
abbrev weights6 (c : Dev nD) : FVec Ideal S1x32x512x1024 .f32 := m ((c.tc : Thread nD τ).loc main_arg6)

theorem expertOf_congr {v w : BitVec 32} (e : v = w) (hv : v.toNat < 32) (hw : w.toNat < 32) : expertOf v hv = ⟨w.toNat, hw⟩ := by
  subst e
  rfl

/-- The body's test of a tile's count is the reference's. -/
theorem sgt_iff (w : BitVec 32) : IntOp.cmpi .sgt w 0#32 = 1#1 ↔ k0_cond1 w = 1#1 := by
  unfold k0_cond1
  show _ ↔ Scalar.cmpi .ne (Scalar.extui (IntOp.cmpi .sgt w 0#32) : BitVec 32) 0#32 = 1#1
  generalize IntOp.cmpi .sgt w 0#32 = b
  revert b
  decide

/-- The reference at a row of a tile, in the tile's words. -/
theorem denseOf_apply (c : Dev nD) (t : Fin (cfgA m h).N) (r : Fin 256) (s : Fin 8) (l : Fin 128) :
    denseOf m c (ix3 (rowAt m h t r) s l) =
      (if k0_cond1 (tables m 2 (tileOf (crd m h t))) = 1#1 then
        (rowsIn m c (ix3 (rowAt m h t r) 8 l) + rowsIn m c (ix3 (rowAt m h t r) 9 l))
          * gated (fun k => rowsIn m c (ix3 (rowAt m h t r) (chunk k) (within k)))
            (fun k j => weights4 m c (ix4 0 (loOf m h t) k j))
            (fun k j => weights5 m c (ix4 0 (loOf m h t) k j))
            (fun j => weights6 m c (ix4 0 (loOf m h t) j (lane s l)))
        + (rowsIn m c (ix3 (rowAt m h t r) 10 l) + rowsIn m c (ix3 (rowAt m h t r) 11 l) )
          * gated (fun k => rowsIn m c (ix3 (rowAt m h t r) (chunk k) (within k)))
            (fun k j => weights4 m c (ix4 0 (hiOf m h t) k j))
            (fun k j => weights5 m c (ix4 0 (hiOf m h t) k j))
            (fun j => weights6 m c (ix4 0 (hiOf m h t) j (lane s l)))
      else 0 : EReal) := by
  have e0 : m ((c.tc : Thread nD τ).loc main_arg0) (ix1 (tileRow (rowAt m h t r))) = tables m 0 (tileOf (crd m h t)) := by
    rw [tileRow_rowAt, tileOf_eq, tables_0 m c]
  have e1 : m ((c.tc : Thread nD τ).loc main_arg1) (ix1 (tileRow (rowAt m h t r))) = tables m 1 (tileOf (crd m h t)) := by
    rw [tileRow_rowAt, tileOf_eq, tables_1 m c]
  have e2 : m ((c.tc : Thread nD τ).loc main_arg2) (ix1 (tileRow (rowAt m h t r))) = tables m 2 (tileOf (crd m h t)) := by
    rw [tileRow_rowAt, tileOf_eq, tables_2 m c]
  have hl : BitVec.toNat (m ((c.tc : Thread nD τ).loc main_arg0) (ix1 (tileRow (rowAt m h t r)))) < 32 := by rw [e0]; exact h.lo _
  have hh : BitVec.toNat (m ((c.tc : Thread nD τ).loc main_arg1) (ix1 (tileRow (rowAt m h t r)))) < 32 := by rw [e1]; exact h.hi _
  have hlh : BitVec.toNat (m ((c.tc : Thread nD τ).loc main_arg0) (ix1 (tileRow (rowAt m h t r))))
      < BitVec.toNat (m ((c.tc : Thread nD τ).loc main_arg1) (ix1 (tileRow (rowAt m h t r)))) := by rw [e0, e1]; exact h.lt _
  have el : expertOf _ hl = loOf m h t := expertOf_congr e0 _ (h.lo _)
  have eh : expertOf _ hh = hiOf m h t := expertOf_congr e1 _ (h.hi _)
  refine (dense_apply _ _ _ _ _ _ _ (rowAt m h t r) s l hl hh hlh).trans ?_
  rw [el, eh]
  refine if_congr ?_ rfl rfl
  show IntOp.cmpi .sgt (m ((c.tc : Thread nD τ).loc main_arg2) (ix1 (tileRow (rowAt m h t r)))) 0#32 = 1#1 ↔ _
  rw [e2]
  exact sgt_iff _

/-- The tile's block at a point, in the arguments. -/
theorem outAt_apply (c : Dev nD) (t : Fin (cfgA m h).N) (r : Fin 256) (s : Fin 8) (l : Fin 128) :
    outAt m h c t (ix3 r s l) = denseOf m c (ix3 (rowAt m h t r) s l) := by
  rw [denseOf_apply m h c t r s l]
  unfold outAt tileOut
  by_cases hc : k0_cond1 (tables m 2 (tileOf (crd m h t))) = 1#1
  · rw [if_pos hc, if_pos hc]
    refine (tileSum_apply _ _ _ _ _ _ _ r s l).trans ?_
    simp only [block_0, block_1, block_2, block_3, block_4, block_5, block_6]
  · rw [if_neg hc, if_neg hc]
    pointwise [k0_pay2]

/-- The output array after the launch. -/
theorem final (c : Dev nD) : (dats m h 0 c).arrAt (7 : Fin 8) (cfgA m h).N = denseOf m c := by
  refine (dats m h 0 c).arrAt_eq_of_covers (7 : Fin 8) _ (covers m h) fun t _ y => ?_
  have key : ∀ y : S256x8x128.Idx, outAt m h c t y = denseOf m c ((((cfgA m h).win (7 : Fin 8)).blk t).view.emb y) := fun y => by
    have hy : y = ix3 (y 0) (y 1) (y 2) := by funext a; fin_cases a <;> rfl
    rw [hy]
    exact (outAt_apply m h c t (y 0) (y 1) (y 2)).trans (congrArg (denseOf m c) (emb_7 m h t (y 0) (y 1) (y 2)).symm)
  exact key y

end Cert.Experts
-- ==== Proof.Normed.lean ====
module

public import Idealize.ShloMosaic.Lib.Pipeline.ValueKit

@[expose] public section

/-!
# A row normalised and projected

Over the extended reals: a row times the reciprocal root of its mean square times the gains, and its product with a column. A
factor that is real and not negative may be taken on the column or on the product.
-/

noncomputable section

namespace Cert.Projection

open Idealize.ShloMosaic

/-- A row over the root of its mean square, times the gains. -/
def normed (x g : Fin 1024 → EReal) (k : Fin 1024) : EReal :=
  x k * Ideal.rsqrt (Ideal.div (∑ j, x j * x j) (Ideal.ofBits .f32 0x44800000#32) + Ideal.ofBits .f32 0x358637BD#32) * g k

/-- The normalised row times a column. -/
def projected (x g w : Fin 1024 → EReal) : EReal := ∑ k, normed x g k * w k

theorem sum_mul_real {ι : Type} (s : Finset ι) (f : ι → EReal) (c : EReal) (h0 : 0 ≤ c) (ht : c ≠ ⊤) :
    (∑ k ∈ s, f k) * c = ∑ k ∈ s, f k * c := by
  classical
  induction s using Finset.induction_on with
  | empty => simp
  | insert a s ha ih => rw [Finset.sum_insert ha, Finset.sum_insert ha, EReal.right_distrib_of_nonneg_of_ne_top h0 ht, ih]

theorem projected_scale (x g w : Fin 1024 → EReal) (c : EReal) (h0 : 0 ≤ c) (ht : c ≠ ⊤) :
    projected x g (fun k => w k * c) = projected x g w * c := by
  unfold projected
  rw [sum_mul_real _ _ c h0 ht]
  exact Finset.sum_congr rfl fun k _ => (mul_assoc _ _ _).symm

/-- The recurrence's factor, as the programs write it. -/
def queryScale : EReal := Ideal.ofBits .f32 0x3DB504F3#32

theorem queryScale_real : ∃ r : ℝ, 0 ≤ r ∧ queryScale = (r : EReal) := by
  refine ⟨_, ?_, by simp [queryScale, Ideal.ofBits, Ideal.ieee]; rfl⟩
  positivity

theorem queryScale_nonneg : 0 ≤ queryScale := by
  obtain ⟨r, h, e⟩ := queryScale_real
  rw [e]
  exact_mod_cast h

theorem queryScale_ne_top : queryScale ≠ ⊤ := by
  obtain ⟨r, -, e⟩ := queryScale_real
  rw [e]
  exact EReal.coe_ne_top r

/-- The queries' columns. -/
def isQuery (n : Fin 3072) : Prop := 512 ≤ n.val ∧ n.val < 1024

instance (n : Fin 3072) : Decidable (isQuery n) := by unfold isQuery; infer_instance

/-- The projection of a row at a column, the factor on the queries. -/
def entryAt (x g : Fin 1024 → EReal) (w : Fin 1024 → Fin 3072 → EReal) (n : Fin 3072) : EReal :=
  if isQuery n then projected x g (fun k => w k n) * queryScale else projected x g (fun k => w k n)

/-- The factor of a column. -/
def factor (n : Fin 3072) : EReal := if isQuery n then queryScale else 1

theorem projected_factor (x g : Fin 1024 → EReal) (w : Fin 1024 → Fin 3072 → EReal) (n : Fin 3072) :
    projected x g (fun k => w k n * factor n) = entryAt x g w n := by
  unfold factor entryAt
  by_cases h : isQuery n
  · simp only [if_pos h]
    exact projected_scale _ _ _ _ queryScale_nonneg queryScale_ne_top
  · simp only [if_neg h, mul_one]

end Cert.Projection
-- ==== Proof.RefProjection.lean ====
module

public import proofs.«01_k».proof.Proof.Normed
public import proofs.«01_k».proof.Proof.Gen.Reference2Ideal.Run

@[expose] public section

/-!
# What the reference of the projection computes

The reference's term is cut at its layers and each is read at an index.
-/

set_option maxRecDepth 16384

noncomputable section

namespace Cert.Projection

open Cert.Reference2Ideal Cert.Reference2Ideal.Gen
open Idealize.ShloMosaic Idealize.ShloMosaic.TcCoe Idealize.SL.Sem

attribute [local instance] Cert.Reference2Ideal.Gen.facts

/-- The normalised rows. -/
def normedRows (X : FVec Ideal S65536x1024 .f32) (g : FVec Ideal S1024 .f32) : FVec Ideal S65536x1024 .f32 :=
  mulf (mulf X (broadcastInDim S65536x1024 ![0, 1] bcast_S65536x1_S65536x1024_0_1 (Host.rsqrt (addf (Host.divf
      (broadcastInDim S65536x1 ![0] bcast_S65536_S65536x1_0 (Host.reduceAdd (mulf X X) (constant S_ .f32 0x00000000#32)
        reducesTo_S65536x1024_S65536_d1 h_S_))
      (broadcastInDim S65536x1 ![] bcast_S_S65536x1 (constant S_ .f32 0x44800000#32)))
      (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 g))

theorem normedRows_apply (X : FVec Ideal S65536x1024 .f32) (g : FVec Ideal S1024 .f32) (r : Fin 65536) (k : Fin 1024) :
    normedRows X g (ix2 r k) = normed (fun j => X (ix2 r j)) (fun j => g (ix1 j)) k := by
  pointwise [normedRows]
  rfl

/-- The product. -/
def product (H : FVec Ideal S65536x1024 .f32) (W : FVec Ideal S1024x3072 .f32) : FVec Ideal S65536x3072 .f32 :=
  Host.dotGeneral dot_S65536x1024_S1024x3072_S65536x3072_1_0_0_1_n_n none H W

theorem product_apply (H : FVec Ideal S65536x1024 .f32) (W : FVec Ideal S1024x3072 .f32) (r : Fin 65536) (n : Fin 3072) :
    product H W (ix2 r n) = ∑ k, (H (ix2 r k) : EReal) * W (ix2 k n) := by
  pointwise [product]

/-- The queries' columns scaled. -/
def queries (Z : FVec Ideal S65536x3072 .f32) : FVec Ideal S65536x3072 .f32 :=
  concatenate S65536x3072 1 [⟨S65536x512, extractStridedSlice S65536x512 ![0, 0] Z slices_S65536x3072_S65536x512_0_0⟩,
    ⟨S65536x512, mulf (extractStridedSlice S65536x512 ![0, 512] Z slices_S65536x3072_S65536x512_0_512)
      (broadcastInDim S65536x512 ![] bcast_S_S65536x512 (constant S_ .f32 0x3DB504F3#32))⟩,
    ⟨S65536x2048, extractStridedSlice S65536x2048 ![0, 1024] Z slices_S65536x3072_S65536x2048_0_1024⟩]
    concatenates_S65536x512_S65536x512_S65536x2048_S65536x3072_d1

theorem queries_apply (Z : FVec Ideal S65536x3072 .f32) (r : Fin 65536) (n : Fin 3072) :
    queries Z (ix2 r n) = (if isQuery n then (Z (ix2 r n) : EReal) * queryScale else Z (ix2 r n)) := by
  pointwise [queries]
  by_cases h1 : n.val < 512
  · exact (dif_pos h1).trans (if_neg (fun h : isQuery n => by unfold isQuery at h; omega)).symm
  · refine (dif_neg h1).trans ?_
    by_cases h2 : n.val - 512 < 512
    · refine (dif_pos h2).trans (Eq.trans ?_ (if_pos (show isQuery n by unfold isQuery; omega)).symm)
      exact congrArg (fun i => (Z (ix2 r i) : EReal) * queryScale) (Fin.ext (by show 512 + (n.val - 512) = n.val; omega))
    · refine (dif_neg h2).trans (Eq.trans ?_ (if_neg (fun h : isQuery n => by unfold isQuery at h; omega)).symm)
      exact congrArg (fun i => (Z (ix2 r i) : EReal)) (Fin.ext (by show 1024 + (n.val - 512 - 512) = n.val; omega))

/-- The reference as a function of its arguments. -/
def projectedRows (X : FVec Ideal S32x2048x1024 .f32) (g : FVec Ideal S1x1024 .f32) (W : FVec Ideal S1x1024x3072 .f32) : FVec Ideal S65536x3072 .bf16 :=
  truncf .bf16 (queries (product (normedRows (shapeCast _ X shapeCasts_S32x2048x1024_S65536x1024) (shapeCast _ g shapeCasts_S1x1024_S1024))
    (shapeCast _ W shapeCasts_S1x1024x3072_S1024x3072))) bitsLt_bf16_f32

/-- Row `r` of all the tokens: its sequence and its position. -/
def seqOf (r : Fin 65536) : Fin 32 := ⟨r / 2048, by omega⟩
def posOf (r : Fin 65536) : Fin 2048 := ⟨r % 2048, by omega⟩

theorem projectedRows_apply (X : FVec Ideal S32x2048x1024 .f32) (g : FVec Ideal S1x1024 .f32) (W : FVec Ideal S1x1024x3072 .f32)
    (r : Fin 65536) (n : Fin 3072) : projectedRows X g W (ix2 r n) =
      entryAt (fun k => X (ix3 (seqOf r) (posOf r) k)) (fun k => g (ix2 0 k)) (fun k n => W (ix3 0 k n)) n := by
  have hx : ∀ k : Fin 1024, (shapeCast S65536x1024 X shapeCasts_S32x2048x1024_S65536x1024) (ix2 r k) = X (ix3 (seqOf r) (posOf r) k) := fun k => by
    pointwise
    rfl
  have hg : ∀ k : Fin 1024, (shapeCast S1024 g shapeCasts_S1x1024_S1024) (ix1 k) = g (ix2 0 k) := fun k => by
    pointwise
  have hw : ∀ (k : Fin 1024) (n : Fin 3072), (shapeCast S1024x3072 W shapeCasts_S1x1024x3072_S1024x3072) (ix2 k n) = W (ix3 0 k n) := fun k n => by
    pointwise
  show queries _ (ix2 r n) = _
  rw [queries_apply, product_apply]
  simp only [normedRows_apply, hx, hg, hw]
  rfl

theorem projected_run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v23) = projectedRows (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2⟩) (Value.run (F := Ideal) m g)

end Cert.Projection
-- ==== Proof.Projection.lean ====
module

public import proofs.«01_k».proof.Proof.RefProjection
public import proofs.«01_k».proof.Proof.Gen.Kernel2Ideal.Value
public import Idealize.ShloMosaic.Lib.Pipeline.ValueKit
public import Idealize.ShloMosaic.Lib.Pipeline.Covers
public import Idealize.ShloMosaic.Lib.StableHlo.ReadAt

@[expose] public section

/-!
# What the projection's launch leaves

Over the extended reals: what one tile of rows computes, the blocks read off the arguments, and the array the launch leaves,
which is the reference's.
-/

set_option maxRecDepth 16384

noncomputable section

namespace Cert.Projection

open Cert.Kernel2Ideal Cert.Kernel2Ideal.Gen
open Idealize.ShloMosaic Idealize.ShloMosaic.TcCoe Idealize.SL.Sem
open Idealize.ShloMosaic.Pipeline (Dat Cfg Window)

attribute [local instance] Cert.Kernel2Ideal.Gen.facts

/-- One store's payload at an entry: a row of the tile, projected on a column of the store's part of the weights. -/
theorem payload_apply (x : FVec Ideal S512x1024 .f32) (g : FVec Ideal S1x1024 .f32) (w : FVec Ideal S1024x1024 .bf16) (r : Fin 512)
    (n : Fin 1024) : k0_pay2 (F := Ideal) x g w (ix2 r n) =
      projected (fun k => x (ix2 r k)) (fun k => g (ix2 0 k)) (fun k => w (ix2 k n)) := by
  pointwise [k0_pay1, k0_pay2]
  rfl

/-- What the tile's buffer holds. -/
def tileProjected (x : FVec Ideal S512x1024 .f32) (g : FVec Ideal S1x1024 .f32) (w : FVec Ideal S1024x3072 .bf16) : FVec Ideal S512x3072 .bf16 :=
  fun y => projected (fun k => x (ix2 (y 0) k)) (fun k => g (ix2 0 k)) (fun k => w (ix2 k (y 1)))

/-- A third of the columns, from column `j`. -/
theorem part_apply (x : FVec Ideal S512x1024 .f32) (g : FVec Ideal S1x1024 .f32) (w : FVec Ideal S1024x3072 .bf16) (j : ℕ)
    (hw : ∀ a, ![0, j] a + S1024x1024.size a ≤ S1024x3072.size a) (ho : ∀ a, ![0, j] a + S512x1024.size a ≤ S512x3072.size a)
    (r : Fin 512) (n : Fin 1024) :
    k0_pay2 (F := Ideal) x g (View.ld (Val := Elt Ideal) w (Rect.unit (s := S1024x3072) ![0, j] S1024x1024.size hw)) (ix2 r n)
      = tileProjected x g w ((Rect.unit (s := S512x3072) ![0, j] S512x1024.size ho).emb (ix2 r n)) := by
  have hj : j + 1024 ≤ 3072 := ho 1
  have e : (Rect.unit (s := S512x3072) ![0, j] S512x1024.size ho).emb (ix2 r n) = ix2 r (⟨j + n.val, by omega⟩ : Fin 3072) := by
    funext a
    refine Fin.ext ((ValueKit.rect_emb_unit_val (s := S512x3072) ![0, j] S512x1024.size ho (ix2 r n) a).trans ?_)
    fin_cases a
    · exact Nat.zero_add _
    · rfl
  rw [e]
  refine (payload_apply x g _ r n).trans ?_
  refine congrArg (projected (fun k => x (ix2 r k)) (fun k => g (ix2 0 k))) (funext fun k => congrArg w ?_)
  funext a
  refine Fin.ext ((ValueKit.rect_emb_unit_val (s := S1024x3072) ![0, j] S1024x1024.size hw (ix2 k n) a).trans ?_)
  fin_cases a
  · exact Nat.zero_add _
  · rfl

theorem out_apply (x : FVec Ideal S512x1024 .f32) (g : FVec Ideal S1x1024 .f32) (w : FVec Ideal S1024x3072 .bf16) :
    out0_3 (F := Ideal) x g w = tileProjected x g w := by
  have hz0 : (![0, 0] : Fin S512x1024.rank → Nat) = fun _ => 0 := funext fun a => by fin_cases a <;> rfl
  have hz1 : (![0, 0] : Fin S1x1024.rank → Nat) = fun _ => 0 := funext fun a => by fin_cases a <;> rfl
  unfold out0_3
  rw [View.ld_unit_zero hz0, View.ld_unit_zero hz1]
  funext y
  refine View.canon_apply_of_pieces (Val := Elt Ideal) (tileProjected x g w) _ ?_ y (cover0_3 _ _ _ y)
  intro p hp z
  simp only [List.mem_cons, List.not_mem_nil, or_false] at hp
  have hz : ∀ z : S512x1024.Idx, z = ix2 (z 0) (z 1) := fun z => by funext a; fin_cases a <;> rfl
  rcases hp with rfl | rfl | rfl
  · rw [hz z]
    exact part_apply x g w 2048 inb_S1024x3072_S1024x1024_0_2048 inb_S512x3072_S512x1024_0_2048 (z 0) (z 1)
  · rw [hz z]
    exact part_apply x g w 1024 inb_S1024x3072_S1024x1024_0_1024 inb_S512x3072_S512x1024_0_1024 (z 0) (z 1)
  · rw [hz z]
    exact part_apply x g w 0 inb_S1024x3072_S1024x1024_0_0 inb_S512x3072_S512x1024_0_0 (z 0) (z 1)

variable (m : (ℓ : Loc nD τ sig) → Buf (Elt Ideal) ℓ)

/-- The weights' argument, at its type. -/
abbrev weightsIn (c : Dev nD) : FVec Ideal S1x1024x3072 .f32 := m ((c.tc : Thread nD τ).loc main_arg2)

/-- Row `r` of a point's tile, as a row of the array. -/
def rowAt (t : Fin cfg0.N) (r : Fin 512) : Fin 65536 := ⟨t.val * 512 + r.val, by
  have ht : t.val < 128 := t.isLt
  omega⟩

theorem coord_0 (t : Fin cfg0.N) : (grid0.coords t 0).val = t.val := by
  revert t
  decide +kernel

theorem index_0 (t : Fin cfg0.N) : (cfg0.win 0).index t = ![t.val, 0] := by
  have ht : t.val < 128 := t.isLt
  show ![(BitVec.ofNat 32 (grid0.coords t 0).val).toNat, 0] = _
  rw [coord_0, BitVec.toNat_ofNat, Nat.mod_eq_of_lt (by omega)]

theorem index_3 (t : Fin cfg0.N) : (cfg0.win 3).index t = ![t.val, 0] := index_0 t

theorem entry_v0 (c : Dev nD) (r : Fin 65536) (k : Fin 1024) :
    V m c main_v0 (ix2 r k) = m ((c.tc : Thread nD τ).loc main_arg0) (ix3 (seqOf r) (posOf r) k) := by
  unfold V
  after_reads_at
  rfl
theorem entry_v2 (c : Dev nD) (k : Fin 1024) :
    V m c main_v2 (ix2 0 k) = m ((c.tc : Thread nD τ).loc main_arg1) (ix2 0 k) := by
  unfold V
  after_reads_at
/-- The host's test of a column is whether it is a query's. -/
theorem query_test : ∀ n : Fin 3072, IntOp.andi (IntOp.cmpi CmpIPredicate.sge (BitVec.ofNat 32 n.val) 512#32)
    (IntOp.cmpi CmpIPredicate.slt (BitVec.ofNat 32 n.val) 1024#32) = if isQuery n then 1#1 else 0#1 := by
  decide +kernel

theorem select_factor (n : Fin 3072) : Scalar.select (IntOp.andi (IntOp.cmpi CmpIPredicate.sge (BitVec.ofNat 32 n.val) 512#32)
    (IntOp.cmpi CmpIPredicate.slt (BitVec.ofNat 32 n.val) 1024#32)) (Ideal.ofBits FTy.f32 0x3DB504F3#32) (1 : EReal) = factor n := by
  rw [query_test]
  unfold factor Scalar.select
  by_cases h : isQuery n
  · rw [if_pos h, if_pos h]
    rfl
  · rw [if_neg h, if_neg h]
    rfl

theorem entry_v15 (c : Dev nD) (k : Fin 1024) (n : Fin 3072) :
    V m c main_v15 (ix2 k n) = (weightsIn m c (ix3 0 k n) * factor n : EReal) := by
  unfold V
  after_reads_at
  unfold id
  pointwise
  exact congrArg (fun a : EReal => weightsIn m c (ix3 0 k n) * a) (select_factor n)

theorem block_0 (c : Dev nD) (t : Fin cfg0.N) (r : Fin 512) (k : Fin 1024) :
    iblk m c 0 t (ix2 r k) = m ((c.tc : Thread nD τ).loc main_arg0) (ix3 (seqOf (rowAt t r)) (posOf (rowAt t r)) k) := by
  show V m c main_v0 (((cfg0.win 0).rect t).emb (ix2 r k)) = _
  refine Eq.trans (congrArg (V m c main_v0) (funext fun a => Fin.ext ?_)) (entry_v0 m c (rowAt t r) k)
  refine (Window.rect_emb_val (cfg0.win 0) t (ix2 r k) a rfl).trans ?_
  rw [index_0]
  fin_cases a
  · rfl
  · exact Nat.zero_add _
theorem block_1 (c : Dev nD) (t : Fin cfg0.N) (k : Fin 1024) :
    iblk m c 1 t (ix2 0 k) = m ((c.tc : Thread nD τ).loc main_arg1) (ix2 0 k) := by
  show V m c main_v2 (((cfg0.win 1).rect t).emb (ix2 0 k)) = _
  refine Eq.trans (congrArg (V m c main_v2) (funext fun a => Fin.ext ?_)) (entry_v2 m c k)
  refine (Window.rect_emb_val (cfg0.win 1) t (ix2 0 k) a rfl).trans ?_
  rw [show (cfg0.win 1).index t = ![0, 0] from rfl]
  fin_cases a
  · rfl
  · exact Nat.zero_add _
theorem block_2 (c : Dev nD) (t : Fin cfg0.N) (k : Fin 1024) (n : Fin 3072) :
    iblk m c 2 t (ix2 k n) = (weightsIn m c (ix3 0 k n) * factor n : EReal) := by
  show V m c main_v15 (((cfg0.win 2).rect t).emb (ix2 k n)) = _
  refine Eq.trans (congrArg (V m c main_v15) (funext fun a => Fin.ext ?_)) (entry_v15 m c k n)
  refine (Window.rect_emb_val (cfg0.win 2) t (ix2 k n) a rfl).trans ?_
  rw [show (cfg0.win 2).index t = ![0, 0] from rfl]
  fin_cases a
  · exact Nat.zero_add _
  · exact Nat.zero_add _

/-- Every block of the output array is some tile's. -/
theorem covers : (cfg0.win 3).Covers :=
  (cfg0.win 3).covers_of_index_surj rfl (fun a => by fin_cases a <;> exact Nat.succ_pos _) fun β => by
    have hb : (β 0).val < 128 := Nat.lt_of_lt_of_eq (β 0).isLt (show (65536 + 512 - 1) / 512 = 128 by decide)
    refine ⟨⟨(β 0).val, hb⟩, fun a => ?_⟩
    rw [index_3]
    fin_cases a
    · rfl
    · have hb : (β 1).val < 1 := Nat.lt_of_lt_of_eq (β 1).isLt (show (3072 + 3072 - 1) / 3072 = 1 by decide)
      show 0 = (β 1).val
      omega

theorem emb_3 (t : Fin cfg0.N) (r : Fin 512) (n : Fin 3072) : ((cfg0.win 3).blk t).view.emb (ix2 r n) = ix2 (rowAt t r) n := by
  funext a
  apply Fin.ext
  refine (Window.rect_emb_val (cfg0.win 3) t (ix2 r n) a rfl).trans ?_
  rw [index_3]
  fin_cases a
  · rfl
  · exact Nat.zero_add _

/-- The reference's function of the arguments, at the launch memory. -/
def projectedOf (c : Dev nD) : FVec Ideal S65536x3072 .bf16 :=
  projectedRows (m ((c.tc : Thread nD τ).loc main_arg0)) (m ((c.tc : Thread nD τ).loc main_arg1)) (m ((c.tc : Thread nD τ).loc main_arg2))

/-- What a point leaves in the output's buffer. -/
@[irreducible] def tileAt (c : Dev nD) (t : Fin cfg0.N) : FVec Ideal S512x3072 .bf16 :=
  out0_3 (F := Ideal) (iblk m c 0 t) (iblk m c 1 t) (iblk m c 2 t)

/-- In the arguments. -/
theorem tileAt_apply (c : Dev nD) (t : Fin cfg0.N) (r : Fin 512) (n : Fin 3072) : tileAt m c t (ix2 r n) = projectedOf m c (ix2 (rowAt t r) n) := by
  unfold tileAt
  refine (congrFun (out_apply _ _ _) (ix2 r n)).trans ?_
  refine Eq.trans ?_ (projectedRows_apply _ _ _ (rowAt t r) n).symm
  show projected (fun k => iblk m c 0 t (ix2 r k)) (fun k => iblk m c 1 t (ix2 0 k)) (fun k => iblk m c 2 t (ix2 k n)) = _
  simp only [block_0, block_1, block_2]
  exact projected_factor _ _ (fun k n => weightsIn m c (ix3 0 k n)) n

theorem after_3 (c : Dev nD) (t : Fin cfg0.N) : (dats m 0 c).after 3 t = tileAt m c t := by
  unfold tileAt
  exact after0_3 m c t

/-- The output array after the launch. -/
theorem final (c : Dev nD) : (dats m 0 c).arrAt 3 cfg0.N = projectedOf m c := by
  refine (dats m 0 c).arrAt_eq_of_covers 3 _ covers fun t _ y => ?_
  have key : ∀ y : S512x3072.Idx, tileAt m c t y = projectedOf m c (((cfg0.win 3).blk t).view.emb y) := fun y => by
    have hy : y = ix2 (y 0) (y 1) := by funext a; fin_cases a <;> rfl
    rw [hy]
    exact (tileAt_apply m c t (y 0) (y 1)).trans (congrArg (projectedOf m c) (emb_3 t (y 0) (y 1)).symm)
  rw [after_3]
  exact key y

end Cert.Projection
-- ==== Proof.RefResidual.lean ====
module

public import proofs.«01_k».proof.Proof.RefProjection
public import proofs.«01_k».proof.Proof.Gen.Reference3Ideal.Run

@[expose] public section

/-!
# What the reference of the output projection computes

A token's entry plus the product of its two mixers' columns, side by side, with a column of the weights; and the product as
the sum of the two mixers' own products.
-/

set_option maxRecDepth 16384

noncomputable section

namespace Cert.Residual

open Cert.Reference3Ideal Cert.Reference3Ideal.Gen
open Idealize.ShloMosaic Idealize.ShloMosaic.TcCoe Idealize.SL.Sem
open Cert.Projection (seqOf posOf)

attribute [local instance] Cert.Reference3Ideal.Gen.facts

/-- Row `k` of the first mixer's half of the weights, and of the second's. -/
def lowRow (k : Fin 512) : Fin 1024 := ⟨k, by omega⟩
def highRow (k : Fin 512) : Fin 1024 := ⟨512 + k, by omega⟩

/-- A token's entry, plus the first mixer's product, plus the second's. -/
def residual (x : EReal) (a b : Fin 512 → EReal) (w : Fin 1024 → EReal) : EReal :=
  x + ∑ k, a k * w (lowRow k) + ∑ k, b k * w (highRow k)

/-- A sum over 1024 is the sum over its two halves. -/
theorem sum_halves (f : Fin 1024 → EReal) : ∑ k, f k = ∑ k, f (lowRow k) + ∑ k, f (highRow k) :=
  Fin.sum_univ_add (a := 512) (b := 512) f

/-- The two mixers' columns side by side. -/
def mixed (A B : FVec Ideal S32x2048x512 .bf16) : FVec Ideal S65536x1024 .f32 :=
  shapeCast _ (extf .f32 (concatenate S32x2048x1024 2 [⟨S32x2048x512, A⟩, ⟨S32x2048x512, B⟩] concatenates_S32x2048x512_S32x2048x512_S32x2048x1024_d2)
    bitsLt_bf16_f32) shapeCasts_S32x2048x1024_S65536x1024

theorem mixed_apply (A B : FVec Ideal S32x2048x512 .bf16) (r : Fin 65536) (k : Fin 1024) : mixed A B (ix2 r k) =
    if h : k.val < 512 then A (ix3 (seqOf r) (posOf r) ⟨k, h⟩) else B (ix3 (seqOf r) (posOf r) ⟨k - 512, by omega⟩) := by
  pointwise [mixed]
  rfl

theorem mixed_low (A B : FVec Ideal S32x2048x512 .bf16) (r : Fin 65536) (k : Fin 512) :
    mixed A B (ix2 r (lowRow k)) = A (ix3 (seqOf r) (posOf r) k) :=
  (mixed_apply A B r (lowRow k)).trans (dif_pos k.isLt)

theorem mixed_high (A B : FVec Ideal S32x2048x512 .bf16) (r : Fin 65536) (k : Fin 512) :
    mixed A B (ix2 r (highRow k)) = B (ix3 (seqOf r) (posOf r) k) := by
  refine (mixed_apply A B r (highRow k)).trans ((dif_neg (by show ¬512 + k.val < 512; omega)).trans ?_)
  exact congrArg (fun i => B (ix3 (seqOf r) (posOf r) i)) (Fin.ext (by show 512 + k.val - 512 = k.val; omega))

/-- The reference as a function of its arguments. -/
def residualRows (X : FVec Ideal S32x2048x1024 .f32) (A B : FVec Ideal S32x2048x512 .bf16) (W : FVec Ideal S1x1024x1024 .f32) :
    FVec Ideal S65536x1024 .f32 :=
  addf (shapeCast _ X shapeCasts_S32x2048x1024_S65536x1024)
    (Host.dotGeneral dot_S65536x1024_S1024x1024_S65536x1024_1_0_0_1_n_n none (mixed A B) (shapeCast _ W shapeCasts_S1x1024x1024_S1024x1024))

theorem residualRows_apply (X : FVec Ideal S32x2048x1024 .f32) (A B : FVec Ideal S32x2048x512 .bf16) (W : FVec Ideal S1x1024x1024 .f32)
    (r : Fin 65536) (n : Fin 1024) : residualRows X A B W (ix2 r n) =
      residual (X (ix3 (seqOf r) (posOf r) n)) (fun k => A (ix3 (seqOf r) (posOf r) k)) (fun k => B (ix3 (seqOf r) (posOf r) k))
        (fun k => W (ix3 0 k n)) := by
  have hx : (shapeCast S65536x1024 X shapeCasts_S32x2048x1024_S65536x1024) (ix2 r n) = X (ix3 (seqOf r) (posOf r) n) := by
    pointwise
    rfl
  have hw : ∀ k : Fin 1024, (shapeCast S1024x1024 W shapeCasts_S1x1024x1024_S1024x1024) (ix2 k n) = W (ix3 0 k n) := fun k => by
    pointwise
  have hp : ∀ (M : FVec Ideal S65536x1024 .f32) (N : FVec Ideal S1024x1024 .f32),
      Host.dotGeneral dot_S65536x1024_S1024x1024_S65536x1024_1_0_0_1_n_n none M N (ix2 r n) = ∑ k, (M (ix2 r k) : EReal) * N (ix2 k n) := fun M N => by
    pointwise
  show ((shapeCast S65536x1024 X shapeCasts_S32x2048x1024_S65536x1024) (ix2 r n) : EReal)
    + Host.dotGeneral dot_S65536x1024_S1024x1024_S65536x1024_1_0_0_1_n_n none (mixed A B) (shapeCast S1024x1024 W shapeCasts_S1x1024x1024_S1024x1024) (ix2 r n) = _
  rw [hp, hx, sum_halves]
  simp only [mixed_low, mixed_high, hw]
  unfold residual
  exact (add_assoc _ _ _).symm

theorem residual_run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v6) = residualRows (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans rfl, (h c).2⟩) (Value.run (F := Ideal) m g)

end Cert.Residual
-- ==== Proof.Residual.lean ====
module

public import proofs.«01_k».proof.Proof.RefResidual
public import proofs.«01_k».proof.Proof.Gen.Kernel3Ideal.Value
public import Idealize.ShloMosaic.Lib.Pipeline.ValueKit
public import Idealize.ShloMosaic.Lib.Pipeline.Covers
public import Idealize.ShloMosaic.Lib.StableHlo.ReadAt

@[expose] public section

/-!
# What the output projection's launch leaves in its first array

Over the extended reals: what one tile of rows computes, the blocks read off the arguments, and the array the launch leaves,
which is the reference's.
-/

set_option maxRecDepth 16384

noncomputable section

namespace Cert.Residual

open Cert.Kernel3Ideal Cert.Kernel3Ideal.Gen
open Idealize.ShloMosaic Idealize.ShloMosaic.TcCoe Idealize.SL.Sem
open Idealize.ShloMosaic.Pipeline (Dat Cfg Window)
open Cert.Projection (seqOf posOf)

attribute [local instance] Cert.Kernel3Ideal.Gen.facts

/-- The store's payload at an entry. -/
theorem payload_apply (x : FVec Ideal S512x1024 .f32) (a : FVec Ideal S512x512 .bf16) (wa : FVec Ideal S512x1024 .bf16) (b : FVec Ideal S512x512 .bf16)
    (wb : FVec Ideal S512x1024 .bf16) (r : Fin 512) (n : Fin 1024) : k0_pay3 (F := Ideal) x a wa b wb (ix2 r n) =
      ((x (ix2 r n) : EReal) + ∑ k, (a (ix2 r k) : EReal) * wa (ix2 k n) + ∑ k, (b (ix2 r k) : EReal) * wb (ix2 k n)) := by
  pointwise [k0_pay3]

variable (m : (ℓ : Loc nD τ sig) → Buf (Elt Ideal) ℓ)

/-- A point's tile of the first output. -/
@[irreducible] def tileAt (c : Dev nD) (t : Fin cfg0.N) : FVec Ideal S512x1024 .f32 :=
  k0_pay3 (F := Ideal) (iblk m c 0 t) (iblk m c 1 t) (iblk m c 3 t) (iblk m c 2 t) (iblk m c 4 t)

/-- Both cases of the body leave it. -/
theorem after_9 (c : Dev nD) (t : Fin cfg0.N) : (dats m 0 c).after 9 t = tileAt m c t := by
  unfold tileAt
  rw [after0_9]
  by_cases h : t.val % 128 = 0
  · rw [outsAt0_A m c t h]
    frame_out
  · rw [outsAt0_B m c t h]
    frame_out

/-- Row `r` of a point's tile, as a row of the array. -/
def rowAt (t : Fin cfg0.N) (r : Fin 512) : Fin 65536 := ⟨t.val * 512 + r.val, by
  have ht : t.val < 128 := t.isLt
  omega⟩

theorem coord_0 (t : Fin cfg0.N) : (grid0.coords t 0).val = t.val := by
  revert t
  decide +kernel

theorem index_0 (t : Fin cfg0.N) : (cfg0.win 0).index t = ![t.val, 0] := by
  have ht : t.val < 128 := t.isLt
  show ![(BitVec.ofNat 32 (grid0.coords t 0).val).toNat, 0] = _
  rw [coord_0, BitVec.toNat_ofNat, Nat.mod_eq_of_lt (by omega)]

theorem index_1 (t : Fin cfg0.N) : (cfg0.win 1).index t = ![t.val, 0] := index_0 t
theorem index_2 (t : Fin cfg0.N) : (cfg0.win 2).index t = ![t.val, 0] := index_0 t
theorem index_9 (t : Fin cfg0.N) : (cfg0.win 9).index t = ![t.val, 0] := index_0 t

theorem entry_v4 (c : Dev nD) (r : Fin 65536) (k : Fin 1024) :
    V m c main_v4 (ix2 r k) = m ((c.tc : Thread nD τ).loc main_arg0) (ix3 (seqOf r) (posOf r) k) := by
  unfold V
  after_reads_at
  rfl

theorem entry_v5 (c : Dev nD) (r : Fin 65536) (k : Fin 512) :
    V m c main_v5 (ix2 r k) = m ((c.tc : Thread nD τ).loc main_arg1) (ix3 (seqOf r) (posOf r) k) := by
  unfold V
  after_reads_at
  rfl

theorem entry_v6 (c : Dev nD) (r : Fin 65536) (k : Fin 512) :
    V m c main_v6 (ix2 r k) = m ((c.tc : Thread nD τ).loc main_arg2) (ix3 (seqOf r) (posOf r) k) := by
  unfold V
  after_reads_at
  rfl

/-- The weights' argument, at its type. -/
abbrev weightsIn (c : Dev nD) : FVec Ideal S1x1024x1024 .f32 := m ((c.tc : Thread nD τ).loc main_arg3)

theorem entry_v9 (c : Dev nD) (k : Fin 512) (n : Fin 1024) : V m c main_v9 (ix2 k n) = weightsIn m c (ix3 0 (lowRow k) n) := by
  unfold V
  after_reads_at
  rfl

theorem entry_v12 (c : Dev nD) (k : Fin 512) (n : Fin 1024) : V m c main_v12 (ix2 k n) = weightsIn m c (ix3 0 (highRow k) n) := by
  unfold V
  after_reads_at
  rfl

theorem block_0 (c : Dev nD) (t : Fin cfg0.N) (r : Fin 512) (k : Fin 1024) :
    iblk m c 0 t (ix2 r k) = m ((c.tc : Thread nD τ).loc main_arg0) (ix3 (seqOf (rowAt t r)) (posOf (rowAt t r)) k) := by
  show V m c main_v4 (((cfg0.win 0).rect t).emb (ix2 r k)) = _
  refine Eq.trans (congrArg (V m c main_v4) (funext fun a => Fin.ext ?_)) (entry_v4 m c (rowAt t r) k)
  refine (Window.rect_emb_val (cfg0.win 0) t (ix2 r k) a rfl).trans ?_
  rw [index_0]
  fin_cases a
  · rfl
  · exact Nat.zero_add _

theorem block_1 (c : Dev nD) (t : Fin cfg0.N) (r : Fin 512) (k : Fin 512) :
    iblk m c 1 t (ix2 r k) = m ((c.tc : Thread nD τ).loc main_arg1) (ix3 (seqOf (rowAt t r)) (posOf (rowAt t r)) k) := by
  show V m c main_v5 (((cfg0.win 1).rect t).emb (ix2 r k)) = _
  refine Eq.trans (congrArg (V m c main_v5) (funext fun a => Fin.ext ?_)) (entry_v5 m c (rowAt t r) k)
  refine (Window.rect_emb_val (cfg0.win 1) t (ix2 r k) a rfl).trans ?_
  rw [index_1]
  fin_cases a
  · rfl
  · exact Nat.zero_add _

theorem block_2 (c : Dev nD) (t : Fin cfg0.N) (r : Fin 512) (k : Fin 512) :
    iblk m c 2 t (ix2 r k) = m ((c.tc : Thread nD τ).loc main_arg2) (ix3 (seqOf (rowAt t r)) (posOf (rowAt t r)) k) := by
  show V m c main_v6 (((cfg0.win 2).rect t).emb (ix2 r k)) = _
  refine Eq.trans (congrArg (V m c main_v6) (funext fun a => Fin.ext ?_)) (entry_v6 m c (rowAt t r) k)
  refine (Window.rect_emb_val (cfg0.win 2) t (ix2 r k) a rfl).trans ?_
  rw [index_2]
  fin_cases a
  · rfl
  · exact Nat.zero_add _

theorem block_3 (c : Dev nD) (t : Fin cfg0.N) (k : Fin 512) (n : Fin 1024) :
    iblk m c 3 t (ix2 k n) = weightsIn m c (ix3 0 (lowRow k) n) := by
  show V m c main_v9 (((cfg0.win 3).rect t).emb (ix2 k n)) = _
  refine Eq.trans (congrArg (V m c main_v9) (funext fun a => Fin.ext ?_)) (entry_v9 m c k n)
  refine (Window.rect_emb_val (cfg0.win 3) t (ix2 k n) a rfl).trans ?_
  rw [show (cfg0.win 3).index t = ![0, 0] from rfl]
  fin_cases a
  · exact Nat.zero_add _
  · exact Nat.zero_add _

theorem block_4 (c : Dev nD) (t : Fin cfg0.N) (k : Fin 512) (n : Fin 1024) :
    iblk m c 4 t (ix2 k n) = weightsIn m c (ix3 0 (highRow k) n) := by
  show V m c main_v12 (((cfg0.win 4).rect t).emb (ix2 k n)) = _
  refine Eq.trans (congrArg (V m c main_v12) (funext fun a => Fin.ext ?_)) (entry_v12 m c k n)
  refine (Window.rect_emb_val (cfg0.win 4) t (ix2 k n) a rfl).trans ?_
  rw [show (cfg0.win 4).index t = ![0, 0] from rfl]
  fin_cases a
  · exact Nat.zero_add _
  · exact Nat.zero_add _

/-- Every block of the output array is some tile's. -/
theorem covers : (cfg0.win 9).Covers :=
  (cfg0.win 9).covers_of_index_surj rfl (fun a => by fin_cases a <;> exact Nat.succ_pos _) fun β => by
    have hb : (β 0).val < 128 := Nat.lt_of_lt_of_eq (β 0).isLt (show (65536 + 512 - 1) / 512 = 128 by decide)
    refine ⟨⟨(β 0).val, hb⟩, fun a => ?_⟩
    rw [index_9]
    fin_cases a
    · rfl
    · have hb : (β 1).val < 1 := Nat.lt_of_lt_of_eq (β 1).isLt (show (1024 + 1024 - 1) / 1024 = 1 by decide)
      show 0 = (β 1).val
      omega

theorem emb_9 (t : Fin cfg0.N) (r : Fin 512) (n : Fin 1024) : ((cfg0.win 9).blk t).view.emb (ix2 r n) = ix2 (rowAt t r) n := by
  funext a
  apply Fin.ext
  refine (Window.rect_emb_val (cfg0.win 9) t (ix2 r n) a rfl).trans ?_
  rw [index_9]
  fin_cases a
  · rfl
  · exact Nat.zero_add _

/-- The reference's function of the arguments, at the launch memory. -/
def residualOf (c : Dev nD) : FVec Ideal S65536x1024 .f32 :=
  residualRows (m ((c.tc : Thread nD τ).loc main_arg0)) (m ((c.tc : Thread nD τ).loc main_arg1)) (m ((c.tc : Thread nD τ).loc main_arg2))
    (m ((c.tc : Thread nD τ).loc main_arg3))

theorem tileAt_apply (c : Dev nD) (t : Fin cfg0.N) (r : Fin 512) (n : Fin 1024) : tileAt m c t (ix2 r n) = residualOf m c (ix2 (rowAt t r) n) := by
  unfold tileAt
  refine (payload_apply _ _ _ _ _ r n).trans ?_
  refine Eq.trans ?_ (residualRows_apply _ _ _ _ (rowAt t r) n).symm
  simp only [block_0, block_1, block_2, block_3, block_4]
  rfl

/-- The first output array after the launch. -/
theorem final (c : Dev nD) : (dats m 0 c).arrAt 9 cfg0.N = residualOf m c := by
  refine (dats m 0 c).arrAt_eq_of_covers 9 _ covers fun t _ y => ?_
  have key : ∀ y : S512x1024.Idx, tileAt m c t y = residualOf m c (((cfg0.win 9).blk t).view.emb y) := fun y => by
    have hy : y = ix2 (y 0) (y 1) := by funext a; fin_cases a <;> rfl
    rw [hy]
    exact (tileAt_apply m c t (y 0) (y 1)).trans (congrArg (residualOf m c) (emb_9 t (y 0) (y 1)).symm)
  rw [after_9]
  exact key y

end Cert.Residual
-- ==== Proof.Ranks.lean ====
module

public import Idealize.ShloMosaic.Lib.Pipeline.ValueKit
public import Idealize.ShloMosaic.Lib.SortPrefix

@[expose] public section

/-!
# The greatest entries of a row

Over the extended reals: the first greatest entry of a row and the first greatest of the others, as a stable sort finds them and
as a maximum followed by a minimum over the positions does.
-/

noncomputable section

namespace Cert.Router

open Idealize.ShloMosaic

/-- `i` is the first position of the greatest entry. -/
structure IsTop {n : Nat} (f : Fin n → EReal) (i : Fin n) : Prop where
  le : ∀ j, f j ≤ f i
  lt : ∀ j, j < i → f j < f i

/-- `i₂` is the first position of the greatest entry but `i₁`'s. -/
structure IsNext {n : Nat} (f : Fin n → EReal) (i₁ i₂ : Fin n) : Prop where
  ne : i₂ ≠ i₁
  le : ∀ j, j ≠ i₁ → f j ≤ f i₂
  lt : ∀ j, j ≠ i₁ → j < i₂ → f j < f i₂

theorem first_in {n : Nat} (f : Fin n → EReal) (s : Finset (Fin n)) (hs : s.Nonempty) :
    ∃ i ∈ s, (∀ j ∈ s, f j ≤ f i) ∧ ∀ j ∈ s, j < i → f j < f i := by
  obtain ⟨a, ha, hmax⟩ := s.exists_max_image f hs
  have hne : (s.filter fun j => f j = f a).Nonempty := ⟨a, by simp [ha]⟩
  obtain ⟨i, hi, hmin⟩ := (s.filter fun j => f j = f a).exists_min_image id hne
  rw [Finset.mem_filter] at hi
  refine ⟨i, hi.1, fun j hj => hi.2 ▸ hmax j hj, fun j hj hji => ?_⟩
  refine lt_of_le_of_ne (hi.2 ▸ hmax j hj) fun e => ?_
  exact absurd (hmin j (Finset.mem_filter.mpr ⟨hj, e.trans hi.2⟩)) (not_le.mpr hji)

theorem exists_top {n : Nat} (f : Fin (n + 1) → EReal) : ∃ i, IsTop f i := by
  obtain ⟨i, -, h, h'⟩ := first_in f Finset.univ Finset.univ_nonempty
  exact ⟨i, fun j => h j (Finset.mem_univ j), fun j => h' j (Finset.mem_univ j)⟩

theorem exists_next {n : Nat} (f : Fin (n + 2) → EReal) (i₁ : Fin (n + 2)) : ∃ i, IsNext f i₁ i := by
  have hne : (Finset.univ.filter fun j : Fin (n + 2) => j ≠ i₁).Nonempty := by
    obtain ⟨j, hj⟩ := exists_ne i₁
    exact ⟨j, by simp [hj]⟩
  obtain ⟨i, hi, h, h'⟩ := first_in f _ hne
  simp only [Finset.mem_filter, Finset.mem_univ, true_and] at hi h h'
  exact ⟨i, hi, h, h'⟩

/-- A stable sort by the greater first, as a strict total order. -/
def before {n : Nat} (f : Fin n → EReal) (k k' : Fin n) : Bool :=
  decide (f k' < f k) || (decide (f k = f k') && decide (k < k'))

theorem before_total {n : Nat} (f : Fin n → EReal) : StrictTotalBefore (before f) := by
  have h := StrictTotalBefore.of_key_then_position (κ := EReal) (fun a b => decide (b < a)) f (fun a => by simp)
    (fun a b c hab hbc => by simp only [decide_eq_true_eq] at *; exact hbc.trans hab)
    (fun a b => by
      simp only [decide_eq_true_eq]
      rcases lt_trichotomy a b with h | h | h
      · exact Or.inr (Or.inr h)
      · exact Or.inr (Or.inl h)
      · exact Or.inl h)
  have e : before f = fun k k' => decide (f k' < f k) || (decide (f k = f k') && decide (k < k')) := rfl
  rw [e]
  convert h using 3

theorem stableSort_congr_later {ι : Type} (R R' : ι → ι → Bool) (l : List ι) (hl : l.Pairwise fun a b => R b a = R' b a) :
    stableSort R l = stableSort R' l := by
  induction l with
  | nil => rfl
  | cons a l ih =>
    rw [List.pairwise_cons] at hl
    unfold stableSort
    rw [ih hl.2]
    exact insertBefore_congr R R' a _ fun b hb => hl.1 b ((perm_stableSort R' l).mem_iff.mp hb)

/-- The stable sort never asks whether an earlier position is before a later one, so ties go by position. -/
theorem sorted_eq {n : Nat} (f : Fin n → EReal) (R : Fin n → Fin n → Bool) (hR : ∀ k k', R k k' = decide (f k' < f k)) :
    sortedFrom R = sortedFrom (before f) := by
  have e : sortPositions n R = sortPositions n (before f) := by
    refine stableSort_congr_later R (before f) _ ?_
    refine (List.pairwise_lt_finRange n).imp fun {a b} hab => ?_
    rw [hR]
    unfold before
    rw [decide_eq_false (not_lt.mpr hab.le), Bool.and_false, Bool.or_false]
  funext k
  unfold sortedFrom
  rw [List.get_of_eq e]
  rfl

theorem not_before_of_top {n : Nat} {f : Fin n → EReal} {i : Fin n} (h : IsTop f i) (p : Fin n) : before f p i = false := by
  unfold before
  rw [decide_eq_false (not_lt.mpr (h.le p)), Bool.false_or]
  by_cases e : p < i
  · rw [decide_eq_false (h.lt p e).ne, Bool.false_and]
  · rw [decide_eq_false e, Bool.and_false]

theorem not_before_of_next {n : Nat} {f : Fin n → EReal} {i₁ i₂ : Fin n} (h : IsNext f i₁ i₂) (p : Fin n) (hp : p ≠ i₁) :
    before f p i₂ = false := by
  unfold before
  rw [decide_eq_false (not_lt.mpr (h.le p hp)), Bool.false_or]
  by_cases e : p < i₂
  · rw [decide_eq_false (h.lt p hp e).ne, Bool.false_and]
  · rw [decide_eq_false e, Bool.and_false]

/-- The first of the sort. -/
theorem sorted_first {n : Nat} (f : Fin n → EReal) (R : Fin n → Fin n → Bool) (hR : ∀ k k', R k k' = decide (f k' < f k))
    {i : Fin n} (h : IsTop f i) (z : Fin n) (hz : z.val = 0) : sortedFrom R z = i := by
  rw [sorted_eq f R hR]
  have hn : 1 ≤ n := by have := z.isLt; omega
  have key := (before_total f).sortedFrom_eq_of_prefix (k := 1) hn (fun _ => i) (fun a b _ => Subsingleton.elim a b)
    (fun a b hab => by omega) (fun _ p _ => not_before_of_top h p) 0
  exact Eq.trans (congrArg (sortedFrom (before f)) (Fin.ext hz)) key

/-- The first two of the sort. -/
theorem sorted_two {n : Nat} (f : Fin n → EReal) (R : Fin n → Fin n → Bool) (hR : ∀ k k', R k k' = decide (f k' < f k))
    {i₁ i₂ : Fin n} (h : IsTop f i₁) (h' : IsNext f i₁ i₂) (z : Fin n) (q : Fin 2) (hz : z.val = q.val) :
    sortedFrom R z = ![i₁, i₂] q := by
  rw [sorted_eq f R hR]
  have hn : 2 ≤ n := by
    have h1 := i₁.isLt
    have h2 := i₂.isLt
    have h3 : i₂.val ≠ i₁.val := fun e => h'.ne (Fin.ext e)
    omega
  have key := (before_total f).sortedFrom_eq_of_prefix (k := 2) hn ![i₁, i₂]
    (fun a b hab => by
      fin_cases a <;> fin_cases b
      · rfl
      · exact absurd hab.symm h'.ne
      · exact absurd hab h'.ne
      · rfl)
    (fun a b hab => by
      fin_cases a <;> fin_cases b
      · exact absurd hab (lt_irrefl _)
      · exact not_before_of_top h i₂
      · exact absurd hab (by decide)
      · exact absurd hab (lt_irrefl _))
    (fun a p hp => by
      fin_cases a
      · exact not_before_of_top h p
      · exact not_before_of_next h' p fun e => hp 0 e.symm) q
  exact Eq.trans (congrArg (sortedFrom (before f)) (Fin.ext hz)) key

/-- The maximum of a row. -/
theorem fold_max {n : Nat} {x : Fin n → EReal} {i : Fin n} (h : IsTop x i) : Finset.univ.fold max ⊥ x = x i := by
  apply le_antisymm
  · exact (Finset.fold_max_le _).mpr ⟨bot_le, fun j _ => h.le j⟩
  · exact (Finset.le_fold_max _).mpr (Or.inr ⟨i, Finset.mem_univ i, le_rfl⟩)

/-- The least position whose entry is the maximum. -/
theorem fold_min {n : Nat} {x : Fin n → EReal} {i : Fin n} (h : IsTop x i) (p : Fin n → EReal) (top : EReal)
    (hp : ∀ a b, a ≤ b → p a ≤ p b) (ht : ∀ a, p a ≤ top) :
    Finset.univ.fold min ⊤ (fun k => if x k = x i then p k else top) = p i := by
  apply le_antisymm
  · exact (Finset.fold_min_le _).mpr (Or.inr ⟨i, Finset.mem_univ i, by rw [if_pos rfl]⟩)
  · refine (Finset.le_fold_min _).mpr ⟨le_top, fun j _ => ?_⟩
    by_cases e : x j = x i
    · rw [if_pos e]
      exact hp _ _ (not_lt.mp fun hj => (h.lt j hj).ne e)
    · rw [if_neg e]
      exact ht i

end Cert.Router
-- ==== Proof.Lanes.lean ====
module

public import proofs.«01_k».proof.Proof.Ranks

@[expose] public section

/-!
# Routing's lanes

Over the extended reals: a row of 128 logits, the experts' in lanes 0 to 31 and the groups' in lanes 32 to 35. Masked to some of its
lanes, the greatest entry of the row is the greatest of those lanes.
-/

noncomputable section

namespace Cert.Router

open Idealize.ShloMosaic

/-- A group's lane. -/
def groupAt (g : Fin 4) : Fin 128 := ⟨32 + g.val, by omega⟩

/-- The lane of a group's expert. -/
def expertAt (g : Fin 4) (j : Fin 8) : Fin 128 := ⟨8 * g.val + j.val, by omega⟩

/-- The row masked to the groups' lanes. -/
def groupLanes (L : Fin 128 → EReal) (k : Fin 128) : EReal := if 32 ≤ k.val ∧ k.val < 36 then L k else ⊥

/-- The row masked to a group's experts. -/
def expertLanes (L : Fin 128 → EReal) (g : Fin 4) (k : Fin 128) : EReal := if 8 * g.val ≤ k.val ∧ k.val < 8 * g.val + 8 then L k else ⊥

/-- And to all of them but one. -/
def restLanes (L : Fin 128 → EReal) (g : Fin 4) (p k : Fin 128) : EReal := if k = p then ⊥ else expertLanes L g k

variable {L : Fin 128 → EReal} (hL : ∀ k, ∃ r : ℝ, L k = (r : EReal))

include hL in
theorem bot_lt_logit (k : Fin 128) : ⊥ < L k := by
  obtain ⟨r, e⟩ := hL k
  rw [e]
  exact EReal.bot_lt_coe r

theorem groupLanes_groupAt (g : Fin 4) : groupLanes L (groupAt g) = L (groupAt g) :=
  if_pos ⟨Nat.le_add_right _ _, by show 32 + g.val < 36; omega⟩

theorem expertLanes_expertAt (g : Fin 4) (j : Fin 8) : expertLanes L g (expertAt g j) = L (expertAt g j) :=
  if_pos ⟨Nat.le_add_right _ _, by show 8 * g.val + j.val < 8 * g.val + 8; omega⟩

theorem groupLanes_cases (k : Fin 128) : (∃ g, k = groupAt g) ∨ groupLanes L k = ⊥ := by
  by_cases h : 32 ≤ k.val ∧ k.val < 36
  · exact Or.inl ⟨⟨k.val - 32, by omega⟩, Fin.ext (by show k.val = 32 + (k.val - 32); omega)⟩
  · exact Or.inr (if_neg h)

theorem expertLanes_cases (g : Fin 4) (k : Fin 128) : (∃ j, k = expertAt g j) ∨ expertLanes L g k = ⊥ := by
  by_cases h : 8 * g.val ≤ k.val ∧ k.val < 8 * g.val + 8
  · exact Or.inl ⟨⟨k.val - 8 * g.val, by omega⟩, Fin.ext (by show k.val = 8 * g.val + (k.val - 8 * g.val); omega)⟩
  · exact Or.inr (if_neg h)

theorem groupAt_lt {g g' : Fin 4} : groupAt g < groupAt g' ↔ g < g' := by
  show 32 + g.val < 32 + g'.val ↔ g.val < g'.val
  omega

theorem expertAt_lt (g : Fin 4) {j j' : Fin 8} : expertAt g j < expertAt g j' ↔ j < j' := by
  show 8 * g.val + j.val < 8 * g.val + j'.val ↔ j.val < j'.val
  omega

theorem expertAt_inj (g : Fin 4) {j j' : Fin 8} (h : expertAt g j = expertAt g j') : j = j' := by
  have e : 8 * g.val + j.val = 8 * g.val + j'.val := congrArg Fin.val h
  exact Fin.ext (by omega)

include hL in
theorem top_groups {g : Fin 4} (h : IsTop (fun g => L (groupAt g)) g) : IsTop (groupLanes L) (groupAt g) := by
  constructor
  · intro k
    rw [groupLanes_groupAt]
    rcases groupLanes_cases (L := L) k with ⟨g', rfl⟩ | e
    · rw [groupLanes_groupAt]
      exact h.le g'
    · rw [e]
      exact bot_le
  · intro k hk
    rw [groupLanes_groupAt]
    rcases groupLanes_cases (L := L) k with ⟨g', rfl⟩ | e
    · rw [groupLanes_groupAt]
      exact h.lt g' (groupAt_lt.mp hk)
    · rw [e]
      exact bot_lt_logit hL _

include hL in
theorem top_experts {g : Fin 4} {i : Fin 8} (h : IsTop (fun j => L (expertAt g j)) i) : IsTop (expertLanes L g) (expertAt g i) := by
  constructor
  · intro k
    rw [expertLanes_expertAt]
    rcases expertLanes_cases (L := L) g k with ⟨j, rfl⟩ | e
    · rw [expertLanes_expertAt]
      exact h.le j
    · rw [e]
      exact bot_le
  · intro k hk
    rw [expertLanes_expertAt]
    rcases expertLanes_cases (L := L) g k with ⟨j, rfl⟩ | e
    · rw [expertLanes_expertAt]
      exact h.lt j ((expertAt_lt g).mp hk)
    · rw [e]
      exact bot_lt_logit hL _

theorem restLanes_expertAt {g : Fin 4} {i j : Fin 8} (h : j ≠ i) : restLanes L g (expertAt g i) (expertAt g j) = L (expertAt g j) :=
  (if_neg fun e => h (expertAt_inj g e)).trans (expertLanes_expertAt g j)

theorem restLanes_cases (g : Fin 4) (i : Fin 8) (k : Fin 128) : (∃ j, j ≠ i ∧ k = expertAt g j) ∨ restLanes L g (expertAt g i) k = ⊥ := by
  by_cases hk : k = expertAt g i
  · exact Or.inr (if_pos hk)
  · rcases expertLanes_cases (L := L) g k with ⟨j, e⟩ | e
    · exact Or.inl ⟨j, fun hj => hk (hj ▸ e), e⟩
    · exact Or.inr ((if_neg hk).trans e)

include hL in
theorem top_rest {g : Fin 4} {i₁ i₂ : Fin 8} (h : IsNext (fun j => L (expertAt g j)) i₁ i₂) :
    IsTop (restLanes L g (expertAt g i₁)) (expertAt g i₂) := by
  constructor
  · intro k
    rw [restLanes_expertAt h.ne]
    rcases restLanes_cases (L := L) g i₁ k with ⟨j, hj, rfl⟩ | e
    · rw [restLanes_expertAt hj]
      exact h.le j hj
    · rw [e]
      exact bot_le
  · intro k hk
    rw [restLanes_expertAt h.ne]
    rcases restLanes_cases (L := L) g i₁ k with ⟨j, hj, rfl⟩ | e
    · rw [restLanes_expertAt hj]
      exact h.lt j hj ((expertAt_lt g).mp hk)
    · rw [e]
      exact bot_lt_logit hL _

theorem exp_bot_sub (r : ℝ) : Ideal.exp (⊥ - (r : EReal)) = 0 := by
  rw [EReal.bot_sub]
  rfl

/-- The masked lanes leave nothing in the sum of the exponentials. -/
theorem sum_groupLanes (r : ℝ) : ∑ k, Ideal.exp (groupLanes L k - (r : EReal)) = ∑ g, Ideal.exp (L (groupAt g) - (r : EReal)) := by
  symm
  refine Finset.sum_of_injOn groupAt (fun a _ b _ e => ?_) (fun _ _ => Finset.mem_coe.mpr (Finset.mem_univ _)) (fun k _ hk => ?_) (fun g _ => ?_)
  · have e : 32 + a.val = 32 + b.val := congrArg Fin.val e
    exact Fin.ext (by omega)
  · rcases groupLanes_cases (L := L) k with ⟨g, rfl⟩ | e
    · exact absurd ⟨g, Finset.mem_coe.mpr (Finset.mem_univ _), rfl⟩ hk
    · rw [e]
      exact exp_bot_sub r
  · rw [groupLanes_groupAt]

/-- A lane's number, read as a float and turned to a word. -/
theorem lane_word (p : Fin 128) : Ideal.fptosi 32 ((p.val : ℝ) : EReal) = BitVec.ofNat 32 p.val := by
  have h : ((p.val : ℝ) : EReal) = ((p.val : ℕ) : ℝ) := rfl
  unfold Ideal.fptosi
  have e : Ideal.toIntClamped (-(2 ^ (32 - 1) : Nat)) ((2 ^ (32 - 1) : Nat) - 1) ((p.val : ℝ) : EReal) = (p.val : Int) := by
    show max _ (min _ (if (0 : ℝ) ≤ (p.val : ℝ) then ⌊(p.val : ℝ)⌋ else ⌈(p.val : ℝ)⌉)) = _
    rw [if_pos (Nat.cast_nonneg _), Int.floor_natCast]
    have := p.isLt
    omega
  rw [e]
  exact BitVec.ofInt_natCast 32 p.val

/-! ## The gates -/

/-- The group and the two experts a row of logits picks. -/
structure Picks (L : Fin 128 → EReal) (g : Fin 4) (i₁ i₂ : Fin 8) : Prop where
  group : IsTop (fun g => L (groupAt g)) g
  first : IsTop (fun j => L (expertAt g j)) i₁
  second : IsNext (fun j => L (expertAt g j)) i₁ i₂

theorem exists_picks (L : Fin 128 → EReal) : ∃ g i₁ i₂, Picks L g i₁ i₂ := by
  obtain ⟨g, hg⟩ := exists_top fun g : Fin 4 => L (groupAt g)
  obtain ⟨i₁, h₁⟩ := exists_top fun j : Fin 8 => L (expertAt g j)
  obtain ⟨i₂, h₂⟩ := exists_next (fun j : Fin 8 => L (expertAt g j)) i₁
  exact ⟨g, i₁, i₂, hg, h₁, h₂⟩

/-- The share of the group picked. -/
def share (L : Fin 128 → EReal) (g : Fin 4) : EReal := Ideal.div 1 (∑ g', Ideal.exp (L (groupAt g') - L (groupAt g)))

/-- The second expert's weight beside the first's. -/
def ratio (L : Fin 128 → EReal) (g : Fin 4) (i₁ i₂ : Fin 8) : EReal := Ideal.exp (L (expertAt g i₂) - L (expertAt g i₁))

/-- The gates of the first and of the second expert picked. -/
def firstGate (L : Fin 128 → EReal) (g : Fin 4) (i₁ i₂ : Fin 8) : EReal := Ideal.div (share L g) (1 + ratio L g i₁ i₂)
def secondGate (L : Fin 128 → EReal) (g : Fin 4) (i₁ i₂ : Fin 8) : EReal := firstGate L g i₁ i₂ * ratio L g i₁ i₂

/-- The gates of the lower and of the higher expert. -/
def lowGate (L : Fin 128 → EReal) (g : Fin 4) (i₁ i₂ : Fin 8) : EReal := if i₁ < i₂ then firstGate L g i₁ i₂ else secondGate L g i₁ i₂
def highGate (L : Fin 128 → EReal) (g : Fin 4) (i₁ i₂ : Fin 8) : EReal := if i₁ < i₂ then secondGate L g i₁ i₂ else firstGate L g i₁ i₂

/-- A routed row at a column: the row normalised, its two gates each as a word and what the word leaves, and zeros. -/
def routedAt (t : Fin 1024 → EReal) (lo hi : EReal) (n : Fin 2048) : EReal :=
  if h : n.val < 1024 then t ⟨n.val, h⟩ else if n.val < 1152 then lo else if n.val < 1280 then lo - lo else if n.val < 1408 then hi
  else if n.val < 1536 then hi - hi else 0

/-- A column of a routed row. -/
def columnAt (s : Fin 16) (k : Fin 128) : Fin 2048 := ⟨s.val * 128 + k.val, by omega⟩

end Cert.Router
-- ==== Proof.RefRouter.lean ====
module

public import proofs.«01_k».proof.Proof.Lanes
public import proofs.«01_k».proof.Proof.RefResidual
public import proofs.«01_k».proof.Proof.Gen.Reference4Ideal.Run

@[expose] public section

/-!
# What the reference of the router computes

The reference's term is cut at its layers and each is read at a row.
-/

set_option maxRecDepth 16384

noncomputable section

namespace Cert.Router

open Cert.Reference4Ideal Cert.Reference4Ideal.Gen
open Idealize.ShloMosaic Idealize.ShloMosaic.TcCoe Idealize.SL.Sem

attribute [local instance] Cert.Reference4Ideal.Gen.facts

/-- The groups' logits. -/
def groupLogits (T : FVec Ideal S65536x1024 .f32) (W : FVec Ideal S1024x4 .f32) : FVec Ideal S65536x4 .f32 :=
  Host.dotGeneral dot_S65536x1024_S1024x4_S65536x4_1_0_0_1_n_n none T W

/-- The experts' logits, by group. -/
def expertLogits (T : FVec Ideal S65536x1024 .f32) (W : FVec Ideal S1024x32 .f32) : FVec Ideal S65536x4x8 .f32 :=
  shapeCast _ (Host.dotGeneral dot_S65536x1024_S1024x32_S65536x32_1_0_0_1_n_n none T W) shapeCasts_S65536x32_S65536x4x8

/-- The exponentials of the groups' logits under their greatest, and the shares. -/
def groupExp (Z : FVec Ideal S65536x4 .f32) : FVec Ideal S65536x4 .f32 :=
  Host.exp (subf Z (broadcastInDim S65536x4 ![0, 1] bcast_S65536x1_S65536x4_0_1 (broadcastInDim S65536x1 ![0] bcast_S65536_S65536x1_0
    (maximumf (broadcastInDim S65536 ![] bcast_S_S65536 (constant S_ .f32 0xFF800000#32))
      (Host.reduce FloatOps.maximumf Z (constant S_ .f32 0xFF800000#32) reducesTo_S65536x4_S65536_d1 h_S_)))))

def groupShare (E : FVec Ideal S65536x4 .f32) : FVec Ideal S65536x4 .f32 :=
  Host.divf E (broadcastInDim S65536x4 ![0, 1] bcast_S65536x1_S65536x4_0_1 (broadcastInDim S65536x1 ![0] bcast_S65536_S65536x1_0
    (Host.reduceAdd E (constant S_ .f32 0x00000000#32) reducesTo_S65536x4_S65536_d1 h_S_)))

/-- The greatest share, and its group. -/
def topShare (P : FVec Ideal S65536x4 .f32) : FVec Ideal S65536x1 .f32 :=
  (Host.topK S65536x1 1 (FloatOps.cmpfTotal .gt) P sliceFits_S65536x4_S65536x1).1

def topGroup (P : FVec Ideal S65536x4 .f32) : IVec S65536x1 32 :=
  (Host.topK S65536x1 1 (FloatOps.cmpfTotal .gt) P sliceFits_S65536x4_S65536x1).2

/-- The picked group's number, counted from the end where it is negative. -/
def wrapped (G : IVec S65536x1 32) : IVec S65536x1x1 32 :=
  select (cmpi .slt (broadcastInDim S65536x1x1 ![0, 1] bcast_S65536x1_S65536x1x1_0_1 G) (broadcastInDim S65536x1x1 ![] bcast_S_S65536x1x1 (constantI S_ 32 0#32)))
    (addi (broadcastInDim S65536x1x1 ![0, 1] bcast_S65536x1_S65536x1x1_0_1 G) (broadcastInDim S65536x1x1 ![] bcast_S_S65536x1x1 (constantI S_ 32 4#32)))
    (broadcastInDim S65536x1x1 ![0, 1] bcast_S65536x1_S65536x1x1_0_1 G)

/-- Where that number is a group's. -/
def within (H : IVec S65536x1x1 32) : IVec S65536x1 1 :=
  Host.reduce IntOp.andi (andi (cmpi .sge H (broadcastInDim S65536x1x1 ![] bcast_S_S65536x1x1 (constantI S_ 32 0#32)))
    (cmpi .sle H (broadcastInDim S65536x1x1 ![0, 1, 2] bcast_S1x1x1_S65536x1x1_0_1_2 (broadcastInDim S1x1x1 ![2] bcast_S1_S1x1x1_2 (constantI S1 32 3#32)))))
    (constantI S_ 1 1#1) reducesTo_S65536x1x1_S65536x1_d2 h_S_

/-- The rows of the group's logits. -/
def gathered (Z : FVec Ideal S65536x4x8 .f32) (H : IVec S65536x1x1 32) : FVec Ideal S65536x1x8 .f32 :=
  Host.gather gather_S65536x4x8_S65536x1x1_S65536x1x8_2_1_0_0_1_2_118 Z H

def pickedLogits (Z : FVec Ideal S65536x4x8 .f32) (H : IVec S65536x1x1 32) : FVec Ideal S65536x8 .f32 :=
  shapeCast _ (select (broadcastInDim S65536x1x8 ![0, 1] bcast_S65536x1_S65536x1x8_0_1 (within H)) (gathered Z H)
    (broadcastInDim S65536x1x8 ![] bcast_S_S65536x1x8 (constant S_ .f32 0x7FC00000#32))) shapeCasts_S65536x1x8_S65536x8

/-- The two greatest of them, and their experts. -/
def topTwo (Z : FVec Ideal S65536x8 .f32) : FVec Ideal S65536x2 .f32 :=
  (Host.topK S65536x2 1 (FloatOps.cmpfTotal .gt) Z sliceFits_S65536x8_S65536x2).1

def topPair (Z : FVec Ideal S65536x8 .f32) : IVec S65536x2 32 :=
  (Host.topK S65536x2 1 (FloatOps.cmpfTotal .gt) Z sliceFits_S65536x8_S65536x2).2

/-- The exponentials of the two under the greater, and the gates. -/
def pairExp (V : FVec Ideal S65536x2 .f32) : FVec Ideal S65536x2 .f32 :=
  Host.exp (subf V (broadcastInDim S65536x2 ![0, 1] bcast_S65536x1_S65536x2_0_1 (broadcastInDim S65536x1 ![0] bcast_S65536_S65536x1_0
    (maximumf (broadcastInDim S65536 ![] bcast_S_S65536 (constant S_ .f32 0xFF800000#32))
      (Host.reduce FloatOps.maximumf V (constant S_ .f32 0xFF800000#32) reducesTo_S65536x2_S65536_d1 h_S_)))))

def pairGates (E : FVec Ideal S65536x2 .f32) (p : FVec Ideal S65536x1 .f32) : FVec Ideal S65536x2 .f32 :=
  mulf (Host.divf E (broadcastInDim S65536x2 ![0, 1] bcast_S65536x1_S65536x2_0_1 (broadcastInDim S65536x1 ![0] bcast_S65536_S65536x1_0
    (Host.reduceAdd E (constant S_ .f32 0x00000000#32) reducesTo_S65536x2_S65536_d1 h_S_))))
    (broadcastInDim S65536x2 ![0, 1] bcast_S65536x1_S65536x2_0_1 p)

/-- Whether the first of the two is the lower expert. -/
def inOrder (I : IVec S65536x2 32) : IVec S65536x1 1 :=
  cmpi .slt (extractStridedSlice S65536x1 ![0, 0] I slices_S65536x2_S65536x1_0_0) (extractStridedSlice S65536x1 ![0, 1] I slices_S65536x2_S65536x1_0_1)

def lowGates (O : IVec S65536x1 1) (W : FVec Ideal S65536x2 .f32) : FVec Ideal S65536x1 .f32 :=
  select O (extractStridedSlice S65536x1 ![0, 0] W slices_S65536x2_S65536x1_0_0) (extractStridedSlice S65536x1 ![0, 1] W slices_S65536x2_S65536x1_0_1)

def highGates (O : IVec S65536x1 1) (W : FVec Ideal S65536x2 .f32) : FVec Ideal S65536x1 .f32 :=
  select O (extractStridedSlice S65536x1 ![0, 1] W slices_S65536x2_S65536x1_0_1) (extractStridedSlice S65536x1 ![0, 0] W slices_S65536x2_S65536x1_0_0)

/-- The routed rows. -/
def routed (T : FVec Ideal S65536x1024 .f32) (lo hi : FVec Ideal S65536x1 .f32) : FVec Ideal S65536x16x128 .bf16 :=
  shapeCast _ (truncf .bf16 (concatenate S65536x2048 1 [⟨S65536x1024, T⟩,
    ⟨S65536x128, broadcastInDim S65536x128 ![0, 1] bcast_S65536x1_S65536x128_0_1 (extf .f32 (truncf .bf16 lo bitsLt_bf16_f32) bitsLt_bf16_f32)⟩,
    ⟨S65536x128, broadcastInDim S65536x128 ![0, 1] bcast_S65536x1_S65536x128_0_1 (subf lo (extf .f32 (truncf .bf16 lo bitsLt_bf16_f32) bitsLt_bf16_f32))⟩,
    ⟨S65536x128, broadcastInDim S65536x128 ![0, 1] bcast_S65536x1_S65536x128_0_1 (extf .f32 (truncf .bf16 hi bitsLt_bf16_f32) bitsLt_bf16_f32)⟩,
    ⟨S65536x128, broadcastInDim S65536x128 ![0, 1] bcast_S65536x1_S65536x128_0_1 (subf hi (extf .f32 (truncf .bf16 hi bitsLt_bf16_f32) bitsLt_bf16_f32))⟩,
    ⟨S65536x512, broadcastInDim S65536x512 ![] bcast_S_S65536x512 (constant S_ .f32 0x00000000#32)⟩]
    concatenates_S65536x1024_S65536x128_S65536x128_S65536x128_S65536x128_S65536x512_S65536x2048_d1) bitsLt_bf16_f32)
    shapeCasts_S65536x2048_S65536x16x128

/-- The normalised rows. -/
def tokenRows (X : FVec Ideal S32x2048x1024 .f32) (A B : FVec Ideal S32x2048x512 .bf16) (W : FVec Ideal S1x1024x1024 .f32)
    (g : FVec Ideal S1x1024 .f32) : FVec Ideal S65536x1024 .f32 :=
  Projection.normedRows (Residual.residualRows X A B W) (shapeCast _ g shapeCasts_S1x1024_S1024)

/-- The reference from its normalised rows. -/
def routedOf (T : FVec Ideal S65536x1024 .f32) (U : FVec Ideal S1024x4 .f32) (V : FVec Ideal S1024x32 .f32) : FVec Ideal S65536x16x128 .bf16 :=
  let P := groupShare (groupExp (groupLogits T U))
  let Z := pickedLogits (expertLogits T V) (wrapped (topGroup P))
  let W := pairGates (pairExp (topTwo Z)) (topShare P)
  routed T (lowGates (inOrder (topPair Z)) W) (highGates (inOrder (topPair Z)) W)

/-- The reference as a function of its arguments. -/
def routedRows (X : FVec Ideal S32x2048x1024 .f32) (A B : FVec Ideal S32x2048x512 .bf16) (W : FVec Ideal S1x1024x1024 .f32)
    (g : FVec Ideal S1x1024 .f32) (U : FVec Ideal S1x1024x4 .f32) (V : FVec Ideal S1x1024x32 .f32) : FVec Ideal S65536x16x128 .bf16 :=
  routedOf (tokenRows X A B W g) (shapeCast _ U shapeCasts_S1x1024x4_S1024x4) (shapeCast _ V shapeCasts_S1x1024x32_S1024x32)

theorem routed_run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v79) = routedRows (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans rfl, (h c).2⟩) (Value.run (F := Ideal) m g)

/-! ## The layers at a row -/

theorem neg_inf : Ideal.ofBits .f32 0xFF800000#32 = ⊥ := by simp [Ideal.ofBits, Ideal.ieee]

theorem groupLogits_apply (T : FVec Ideal S65536x1024 .f32) (W : FVec Ideal S1024x4 .f32) (r : Fin 65536) (g : Fin 4) :
    groupLogits T W (ix2 r g) = ∑ k, (T (ix2 r k) : EReal) * W (ix2 k g) := by
  pointwise [groupLogits]

theorem expertLogits_apply (T : FVec Ideal S65536x1024 .f32) (W : FVec Ideal S1024x32 .f32) (r : Fin 65536) (g : Fin 4) (j : Fin 8) :
    expertLogits T W (ix3 r g j) = ∑ k, (T (ix2 r k) : EReal) * W (ix2 k ⟨8 * g.val + j.val, by omega⟩) := by
  pointwise [expertLogits]
  refine Finset.sum_congr rfl fun k _ => congrArg (fun n => (T (ix2 r k) : EReal) * W (ix2 k n)) (Fin.ext ?_)
  show g.val * 8 + j.val = 8 * g.val + j.val
  omega

theorem groupExp_apply (Z : FVec Ideal S65536x4 .f32) (r : Fin 65536) {g : Fin 4} (h : IsTop (fun g => (Z (ix2 r g) : EReal)) g) (k : Fin 4) :
    groupExp Z (ix2 r k) = Ideal.exp ((Z (ix2 r k) : EReal) - Z (ix2 r g)) := by
  pointwise [groupExp]
  rw [neg_inf, fold_max h, max_eq_right bot_le]

theorem groupShare_apply (E : FVec Ideal S65536x4 .f32) (r : Fin 65536) (k : Fin 4) :
    groupShare E (ix2 r k) = Ideal.div (E (ix2 r k)) (∑ g, (E (ix2 r g) : EReal)) := by
  pointwise [groupShare]

/-- The greater of two entries, as the sort compares them. -/
theorem greater (a b : EReal) : (FloatOps.cmpfTotal (F := Ideal) (φ := .f32) .gt a b == 1#1) = decide (b < a) := by
  show (BitVec.ofBool (decide (b < a)) == 1#1) = _
  by_cases h : b < a <;> simp [h]

theorem along_four (r : Fin 65536) (z k : Fin 4) : (ix2 r z : S65536x4.Idx).along 1 k = ix2 r k := by
  funext a
  fin_cases a <;> rfl

theorem along_eight (r : Fin 65536) (z k : Fin 8) : (ix2 r z : S65536x8.Idx).along 1 k = ix2 r k := by
  funext a
  fin_cases a <;> rfl

/-- The place a sort by the greater first takes an entry of a row from. -/
def placeFour (P : FVec Ideal S65536x4 .f32) (J : S65536x4.Idx) (z : Fin 4) : Fin 4 :=
  sortedFrom (fun k k' => FloatOps.cmpfTotal (F := Ideal) (φ := .f32) .gt (P (J.along 1 k)) (P (J.along 1 k')) == 1#1) z

def placeEight (Z : FVec Ideal S65536x8 .f32) (J : S65536x8.Idx) (z : Fin 8) : Fin 8 :=
  sortedFrom (fun k k' => FloatOps.cmpfTotal (F := Ideal) (φ := .f32) .gt (Z (J.along 1 k)) (Z (J.along 1 k')) == 1#1) z

theorem placeFour_eq (P : FVec Ideal S65536x4 .f32) (r : Fin 65536) {g : Fin 4} (h : IsTop (fun g => (P (ix2 r g) : EReal)) g) :
    placeFour P (ix2 r 0) 0 = g :=
  sorted_first (fun g => (P (ix2 r g) : EReal)) _ (fun k k' => by rw [along_four, along_four]; exact greater _ _) h _ rfl

theorem placeEight_eq (Z : FVec Ideal S65536x8 .f32) (r : Fin 65536) {i₁ i₂ : Fin 8} (h : IsTop (fun j => (Z (ix2 r j) : EReal)) i₁)
    (h' : IsNext (fun j => (Z (ix2 r j) : EReal)) i₁ i₂) (q : Fin 2) (z : Fin 8) (hz : z.val = q.val) : placeEight Z (ix2 r z) z = ![i₁, i₂] q :=
  sorted_two (fun j => (Z (ix2 r j) : EReal)) _ (fun k k' => by rw [along_eight, along_eight]; exact greater _ _) h h' z q hz

/-- A slice from the start reads the same position. -/
theorem slice_start {α : Type} (s t : Shape) (x : s.Idx → α) (h : s.Slices (fun _ => 0) t) (i : t.Idx) (J : s.Idx)
    (hJ : ∀ a, (J a).val = (i (a.cast h.1.symm)).val) : extractStridedSlice t (fun _ => 0) x h i = x J :=
  congrArg x (funext fun a => Fin.ext ((Nat.zero_add _).trans (hJ a).symm))

theorem topShare_apply (P : FVec Ideal S65536x4 .f32) (r : Fin 65536) {g : Fin 4} (h : IsTop (fun g => (P (ix2 r g) : EReal)) g) :
    topShare P (ix2 r 0) = P (ix2 r g) := by
  refine (slice_start S65536x4 S65536x1 (fun J : S65536x4.Idx => P (J.along 1 (placeFour P J (J 1)))) sliceFits_S65536x4_S65536x1 (ix2 r 0) (ix2 r 0)
    (fun a => by fin_cases a <;> rfl)).trans ?_
  exact congrArg P ((along_four r 0 _).trans (congrArg (ix2 r) (placeFour_eq P r h)))

theorem topGroup_apply (P : FVec Ideal S65536x4 .f32) (r : Fin 65536) {g : Fin 4} (h : IsTop (fun g => (P (ix2 r g) : EReal)) g) :
    topGroup P (ix2 r 0) = BitVec.ofNat 32 g.val := by
  refine (slice_start S65536x4 S65536x1 (fun J : S65536x4.Idx => BitVec.ofNat 32 ((J.along 1 (placeFour P J (J 1))) 1).val)
    sliceFits_S65536x4_S65536x1 (ix2 r 0) (ix2 r 0) (fun a => by fin_cases a <;> rfl)).trans ?_
  exact congrArg (fun J : S65536x4.Idx => BitVec.ofNat 32 (J 1).val) ((along_four r 0 _).trans (congrArg (ix2 r) (placeFour_eq P r h)))

theorem topTwo_apply (Z : FVec Ideal S65536x8 .f32) (r : Fin 65536) {i₁ i₂ : Fin 8} (h : IsTop (fun j => (Z (ix2 r j) : EReal)) i₁)
    (h' : IsNext (fun j => (Z (ix2 r j) : EReal)) i₁ i₂) (q : Fin 2) : topTwo Z (ix2 r q) = Z (ix2 r (![i₁, i₂] q)) := by
  refine (slice_start S65536x8 S65536x2 (fun J : S65536x8.Idx => Z (J.along 1 (placeEight Z J (J 1)))) sliceFits_S65536x8_S65536x2 (ix2 r q)
    (ix2 r ⟨q.val, by omega⟩) (fun a => by fin_cases a <;> rfl)).trans ?_
  exact congrArg Z ((along_eight r _ _).trans (congrArg (ix2 r) (placeEight_eq Z r h h' q _ rfl)))

theorem topPair_apply (Z : FVec Ideal S65536x8 .f32) (r : Fin 65536) {i₁ i₂ : Fin 8} (h : IsTop (fun j => (Z (ix2 r j) : EReal)) i₁)
    (h' : IsNext (fun j => (Z (ix2 r j) : EReal)) i₁ i₂) (q : Fin 2) : topPair Z (ix2 r q) = BitVec.ofNat 32 ((![i₁, i₂] : Fin 2 → Fin 8) q).val := by
  refine (slice_start S65536x8 S65536x2 (fun J : S65536x8.Idx => BitVec.ofNat 32 ((J.along 1 (placeEight Z J (J 1))) 1).val)
    sliceFits_S65536x8_S65536x2 (ix2 r q) (ix2 r ⟨q.val, by omega⟩) (fun a => by fin_cases a <;> rfl)).trans ?_
  exact congrArg (fun J : S65536x8.Idx => BitVec.ofNat 32 (J 1).val) ((along_eight r _ _).trans (congrArg (ix2 r) (placeEight_eq Z r h h' q _ rfl)))

theorem wrapped_apply (G : IVec S65536x1 32) (r : Fin 65536) (g : Fin 4) (h : G (ix2 r 0) = BitVec.ofNat 32 g.val) :
    wrapped G (ix3 r 0 0) = BitVec.ofNat 32 g.val := by
  pointwise [wrapped]
  rw [h]
  clear h
  revert g
  decide

theorem within_apply (H : IVec S65536x1x1 32) (r : Fin 65536) (g : Fin 4) (h : H (ix3 r 0 0) = BitVec.ofNat 32 g.val) :
    within H (ix2 r 0) = 1#1 := by
  pointwise [within]
  have e : ∀ x : Fin 1, H (ix3 r 0 x) = BitVec.ofNat 32 g.val := fun x => by
    rw [Subsingleton.elim x 0]
    exact h
  simp only [e]
  clear h e
  revert g
  decide

theorem gathered_apply (Z : FVec Ideal S65536x4x8 .f32) (H : IVec S65536x1x1 32) (r : Fin 65536) (g : Fin 4)
    (h : H (ix3 r 0 0) = BitVec.ofNat 32 g.val) (j : Fin 8) : gathered Z H (ix3 r 0 j) = Z (ix3 r g j) := by
  unfold gathered
  refine congrArg Z (funext fun a => Fin.ext ?_)
  have hs : ∀ J : S65536x1x1.Idx, J = ix3 r 0 0 → min (H J).toInt.toNat 3 = g.val := by
    rintro _ rfl
    rw [h]
    clear h
    revert g
    decide
  fin_cases a
  · exact Nat.zero_add _
  · exact hs _ (funext fun b => by fin_cases b <;> rfl)
  · exact Nat.zero_add _

theorem pickedLogits_apply (Z : FVec Ideal S65536x4x8 .f32) (H : IVec S65536x1x1 32) (r : Fin 65536) (g : Fin 4)
    (h : H (ix3 r 0 0) = BitVec.ofNat 32 g.val) (j : Fin 8) : pickedLogits Z H (ix2 r j) = Z (ix3 r g j) := by
  pointwise [pickedLogits]
  rw [within_apply H r g h, gathered_apply Z H r g h]
  rfl

theorem pairExp_apply (V : FVec Ideal S65536x2 .f32) (r : Fin 65536) (h : (V (ix2 r 1) : EReal) ≤ V (ix2 r 0)) (k : Fin 2) :
    pairExp V (ix2 r k) = Ideal.exp ((V (ix2 r k) : EReal) - V (ix2 r 0)) := by
  have ht : IsTop (fun q : Fin 2 => (V (ix2 r q) : EReal)) 0 :=
    ⟨fun q => by
      fin_cases q
      · exact le_rfl
      · exact h, fun q hq => absurd hq (Nat.not_lt_zero _)⟩
  pointwise [pairExp]
  rw [neg_inf, fold_max ht, max_eq_right bot_le]

theorem pairGates_apply (E : FVec Ideal S65536x2 .f32) (p : FVec Ideal S65536x1 .f32) (r : Fin 65536) (k : Fin 2) :
    pairGates E p (ix2 r k) = Ideal.div (E (ix2 r k)) ((E (ix2 r 0) : EReal) + E (ix2 r 1)) * p (ix2 r 0) := by
  pointwise [pairGates]
  rw [Fin.sum_univ_two]

theorem inOrder_apply (I : IVec S65536x2 32) (r : Fin 65536) (i₁ i₂ : Fin 8) (h₁ : I (ix2 r 0) = BitVec.ofNat 32 i₁.val)
    (h₂ : I (ix2 r 1) = BitVec.ofNat 32 i₂.val) : inOrder I (ix2 r 0) = BitVec.ofBool (decide (i₁ < i₂)) := by
  pointwise [inOrder]
  rw [h₁, h₂]
  clear h₁ h₂
  revert i₁ i₂
  decide

theorem lowGates_apply (O : IVec S65536x1 1) (W : FVec Ideal S65536x2 .f32) (r : Fin 65536) :
    lowGates O W (ix2 r 0) = Scalar.select (O (ix2 r 0)) (W (ix2 r 0)) (W (ix2 r 1)) := by
  pointwise [lowGates]

theorem highGates_apply (O : IVec S65536x1 1) (W : FVec Ideal S65536x2 .f32) (r : Fin 65536) :
    highGates O W (ix2 r 0) = Scalar.select (O (ix2 r 0)) (W (ix2 r 1)) (W (ix2 r 0)) := by
  pointwise [highGates]

theorem routed_column (T : FVec Ideal S65536x1024 .f32) (lo hi : FVec Ideal S65536x1 .f32) (r : Fin 65536) (s : Fin 16) (k : Fin 128) :
    routed T lo hi (ix3 r s k) = routedAt (fun j => T (ix2 r j)) (lo (ix2 r 0)) (hi (ix2 r 0)) (columnAt s k) := by
  pointwise [routed]
  unfold routedAt
  have hc : (columnAt s k).val = s.val * 128 + k.val := rfl
  by_cases h1 : s.val * 128 + k.val < 1024
  · refine (dif_pos h1).trans ?_
    rw [dif_pos (show (columnAt s k).val < 1024 from h1)]
    rfl
  refine (dif_neg h1).trans (Eq.trans ?_ (dif_neg (show ¬(columnAt s k).val < 1024 from h1)).symm)
  by_cases h2 : s.val * 128 + k.val - 1024 < 128
  · exact (dif_pos h2).trans (if_pos (by omega)).symm
  refine (dif_neg h2).trans (Eq.trans ?_ (if_neg (by omega)).symm)
  by_cases h3 : s.val * 128 + k.val - 1024 - 128 < 128
  · exact (dif_pos h3).trans (if_pos (by omega)).symm
  refine (dif_neg h3).trans (Eq.trans ?_ (if_neg (by omega)).symm)
  by_cases h4 : s.val * 128 + k.val - 1024 - 128 - 128 < 128
  · exact (dif_pos h4).trans (if_pos (by omega)).symm
  refine (dif_neg h4).trans (Eq.trans ?_ (if_neg (by omega)).symm)
  by_cases h5 : s.val * 128 + k.val - 1024 - 128 - 128 - 128 < 128
  · exact (dif_pos h5).trans (if_pos (by omega)).symm
  exact (dif_neg h5).trans (if_neg (by omega)).symm

end Cert.Router
-- ==== Proof.RefGates.lean ====
module

public import proofs.«01_k».proof.Proof.RefRouter

@[expose] public section

/-!
# The gates of the reference

Over the extended reals, at a row whose logits are real: the group the softmax's greatest share picks is the one of the greatest
logit, its share is the reciprocal of the sum, and the gates are the group's share split between its two greatest experts.
-/

set_option maxRecDepth 16384

noncomputable section

namespace Cert.Router

open Cert.Reference4Ideal Cert.Reference4Ideal.Gen
open Idealize.ShloMosaic Idealize.ShloMosaic.TcCoe Idealize.SL.Sem

attribute [local instance] Cert.Reference4Ideal.Gen.facts

theorem exp_sub_self {x : EReal} (h : ∃ a : ℝ, x = (a : EReal)) : Ideal.exp (x - x) = 1 := by
  obtain ⟨a, rfl⟩ := h
  rw [← EReal.coe_sub, sub_self, Ideal.exp_coe, Real.exp_zero]
  rfl

theorem exp_sub {x y : EReal} (hx : ∃ a : ℝ, x = (a : EReal)) (hy : ∃ a : ℝ, y = (a : EReal)) :
    ∃ a : ℝ, 0 < a ∧ Ideal.exp (x - y) = (a : EReal) := by
  obtain ⟨a, rfl⟩ := hx
  obtain ⟨b, rfl⟩ := hy
  exact ⟨Real.exp (a - b), Real.exp_pos _, by rw [← EReal.coe_sub, Ideal.exp_coe]⟩

variable {L : Fin 128 → EReal} (hL : ∀ k, ∃ x : ℝ, L k = (x : EReal))

include hL

/-- The sum of the groups' exponentials is real and positive. -/
theorem sum_exp (g : Fin 4) : ∃ S : ℝ, 0 < S ∧ ∑ g', Ideal.exp (L (groupAt g') - L (groupAt g)) = (S : EReal) := by
  choose a ha e using fun g' : Fin 4 => exp_sub (hL (groupAt g')) (hL (groupAt g))
  refine ⟨a 0 + a 1 + a 2 + a 3, ?_, ?_⟩
  · have h0 := ha 0
    have h1 := ha 1
    have h2 := ha 2
    have h3 := ha 3
    positivity
  · rw [Fin.sum_univ_four, e, e, e, e]
    norm_cast

/-- The shares are ordered as the logits. -/
theorem top_share {g : Fin 4} (h : IsTop (fun g => L (groupAt g)) g) :
    IsTop (fun k : Fin 4 => Ideal.div (Ideal.exp (L (groupAt k) - L (groupAt g))) (∑ g', Ideal.exp (L (groupAt g') - L (groupAt g)))) g := by
  obtain ⟨S, hS, e⟩ := sum_exp hL g
  choose a ha using fun g' : Fin 4 => hL (groupAt g')
  have hP : ∀ k : Fin 4, Ideal.div (Ideal.exp (L (groupAt k) - L (groupAt g))) (∑ g', Ideal.exp (L (groupAt g') - L (groupAt g))) =
      ((Real.exp (a k - a g) * (1 / S) : ℝ) : EReal) := fun k => by
    rw [e, Ideal.div_coe hS.ne', ha, ha, ← EReal.coe_sub, Ideal.exp_coe, EReal.coe_mul]
  have hc : 0 < 1 / S := one_div_pos.mpr hS
  constructor
  · intro k
    have hk := h.le k
    simp only [ha, EReal.coe_le_coe_iff] at hk
    rw [hP, hP, EReal.coe_le_coe_iff]
    exact mul_le_mul_of_nonneg_right (Real.exp_le_exp.mpr (by linarith)) hc.le
  · intro k hkg
    have hk := h.lt k hkg
    simp only [ha, EReal.coe_lt_coe_iff] at hk
    rw [hP, hP, EReal.coe_lt_coe_iff]
    exact mul_lt_mul_of_pos_right (Real.exp_lt_exp.mpr (by linarith)) hc

theorem ratio_real (g : Fin 4) (i₁ i₂ : Fin 8) : ∃ a : ℝ, 0 < a ∧ 1 + ratio L g i₁ i₂ = (a : EReal) := by
  obtain ⟨a, ha, e⟩ := exp_sub (hL (expertAt g i₂)) (hL (expertAt g i₁))
  refine ⟨1 + a, by positivity, ?_⟩
  rw [ratio, e]
  norm_cast

theorem first_split (g : Fin 4) (i₁ i₂ : Fin 8) : Ideal.div 1 (1 + ratio L g i₁ i₂) * share L g = firstGate L g i₁ i₂ := by
  obtain ⟨a, ha, e⟩ := ratio_real hL g i₁ i₂
  unfold firstGate
  rw [e, Ideal.div_coe ha.ne', Ideal.div_coe ha.ne', one_mul, mul_comm]

theorem second_split (g : Fin 4) (i₁ i₂ : Fin 8) :
    Ideal.div (ratio L g i₁ i₂) (1 + ratio L g i₁ i₂) * share L g = secondGate L g i₁ i₂ := by
  obtain ⟨a, ha, e⟩ := ratio_real hL g i₁ i₂
  unfold secondGate firstGate
  rw [e, Ideal.div_coe ha.ne', Ideal.div_coe ha.ne', mul_comm, mul_comm (ratio L g i₁ i₂), mul_assoc]

/-- The reference's routed row. -/
theorem routedOf_apply (T : FVec Ideal S65536x1024 .f32) (U : FVec Ideal S1024x4 .f32) (V : FVec Ideal S1024x32 .f32) (r : Fin 65536)
    (hU : ∀ g, ∑ k, (T (ix2 r k) : EReal) * U (ix2 k g) = L (groupAt g))
    (hV : ∀ (g : Fin 4) (j : Fin 8), ∑ k, (T (ix2 r k) : EReal) * V (ix2 k ⟨8 * g.val + j.val, by omega⟩) = L (expertAt g j))
    {g : Fin 4} {i₁ i₂ : Fin 8} (hp : Picks L g i₁ i₂) (s : Fin 16) (k : Fin 128) :
    routedOf T U V (ix3 r s k) = routedAt (fun j => T (ix2 r j)) (lowGate L g i₁ i₂) (highGate L g i₁ i₂) (columnAt s k) := by
  have hz : ∀ k, groupLogits T U (ix2 r k) = L (groupAt k) := fun k => (groupLogits_apply T U r k).trans (hU k)
  have htop : IsTop (fun k => (groupLogits T U (ix2 r k) : EReal)) g := by
    simp only [hz]
    exact hp.group
  have hE : ∀ k, groupExp (groupLogits T U) (ix2 r k) = Ideal.exp (L (groupAt k) - L (groupAt g)) := fun k => by
    rw [groupExp_apply _ r htop, hz, hz]
  have hP : ∀ k, groupShare (groupExp (groupLogits T U)) (ix2 r k) =
      Ideal.div (Ideal.exp (L (groupAt k) - L (groupAt g))) (∑ g', Ideal.exp (L (groupAt g') - L (groupAt g))) := fun k => by
    rw [groupShare_apply]
    simp only [hE]
  have hPtop : IsTop (fun k => (groupShare (groupExp (groupLogits T U)) (ix2 r k) : EReal)) g := by
    simp only [hP]
    exact top_share hL hp.group
  have hpt : topShare (groupShare (groupExp (groupLogits T U))) (ix2 r 0) = share L g := by
    rw [topShare_apply _ r hPtop, hP, exp_sub_self (hL _)]
    rfl
  have hgw := wrapped_apply _ r g (topGroup_apply _ r hPtop)
  have hZ : ∀ j, pickedLogits (expertLogits T V) (wrapped (topGroup (groupShare (groupExp (groupLogits T U))))) (ix2 r j) = L (expertAt g j) := fun j =>
    ((pickedLogits_apply _ _ r g hgw j).trans (expertLogits_apply T V r g j)).trans (hV g j)
  unfold routedOf
  generalize hZe : pickedLogits (expertLogits T V) (wrapped (topGroup (groupShare (groupExp (groupLogits T U))))) = Z at hZ ⊢
  have h1 : IsTop (fun j => (Z (ix2 r j) : EReal)) i₁ := by
    simp only [hZ]
    exact hp.first
  have h2 : IsNext (fun j => (Z (ix2 r j) : EReal)) i₁ i₂ := by
    simp only [hZ]
    exact hp.second
  have hv0 : topTwo Z (ix2 r 0) = L (expertAt g i₁) := (topTwo_apply Z r h1 h2 0).trans (hZ i₁)
  have hv1 : topTwo Z (ix2 r 1) = L (expertAt g i₂) := (topTwo_apply Z r h1 h2 1).trans (hZ i₂)
  have hle : (topTwo Z (ix2 r 1) : EReal) ≤ topTwo Z (ix2 r 0) := by
    rw [hv0, hv1]
    exact hp.first.le i₂
  have hx0 : pairExp (topTwo Z) (ix2 r 0) = 1 := by
    rw [pairExp_apply _ r hle, hv0, exp_sub_self (hL _)]
  have hx1 : pairExp (topTwo Z) (ix2 r 1) = ratio L g i₁ i₂ := by
    rw [pairExp_apply _ r hle, hv0, hv1]
    rfl
  have hw0 : pairGates (pairExp (topTwo Z)) (topShare (groupShare (groupExp (groupLogits T U)))) (ix2 r 0) = firstGate L g i₁ i₂ := by
    rw [pairGates_apply, hx0, hx1, hpt]
    exact first_split hL g i₁ i₂
  have hw1 : pairGates (pairExp (topTwo Z)) (topShare (groupShare (groupExp (groupLogits T U)))) (ix2 r 1) = secondGate L g i₁ i₂ := by
    rw [pairGates_apply, hx0, hx1, hpt]
    exact second_split hL g i₁ i₂
  have ho : inOrder (topPair Z) (ix2 r 0) = BitVec.ofBool (decide (i₁ < i₂)) :=
    inOrder_apply _ r i₁ i₂ (topPair_apply Z r h1 h2 0) (topPair_apply Z r h1 h2 1)
  have hs : ∀ a b : EReal, Scalar.select (BitVec.ofBool (decide (i₁ < i₂))) a b = if i₁ < i₂ then a else b := fun a b => by
    by_cases h : i₁ < i₂ <;> simp [Scalar.select, h]
  refine (routed_column _ _ _ r s k).trans ?_
  rw [lowGates_apply, highGates_apply, ho, hw0, hw1, hs, hs]
  rfl

end Cert.Router
-- ==== Proof.RouterRow.lean ====
module

public import proofs.«01_k».proof.Proof.Lanes
public import proofs.«01_k».proof.Proof.Normed
public import proofs.«01_k».proof.Proof.Gen.Kernel4Ideal.Skeleton

@[expose] public section

/-!
# What a row of the router computes

Over the extended reals: the kernel's masks, maxima and positions of one row of logits, the gates they leave, and the routed row.
-/

set_option maxRecDepth 16384

noncomputable section

namespace Cert.Router

open Cert.Kernel4Ideal Cert.Kernel4Ideal.Gen
open Idealize.ShloMosaic Idealize.ShloMosaic.TcCoe Idealize.SL.Sem

attribute [local instance] Cert.Kernel4Ideal.Gen.facts

theorem bits_bot : Ideal.ofBits .f32 0xFF800000#32 = ⊥ := by simp [Ideal.ofBits, Ideal.ieee]
theorem bits_top : Ideal.ofBits .f32 0x7F800000#32 = ⊤ := by simp [Ideal.ofBits, Ideal.ieee]
theorem bits_lanes : Ideal.ofBits .f32 0x43000000#32 = ((128 : ℝ) : EReal) := by
  simp only [Ideal.ofBits, Ideal.ieee]
  simp
  rw [← EReal.coe_mul]
  norm_num

theorem lane_toInt (n : Nat) (h : n < 2 ^ 31) : (BitVec.ofNat 32 n).toInt = n := by
  have h2 : (BitVec.ofNat 32 n).toNat = n := by rw [BitVec.toNat_ofNat, Nat.mod_eq_of_lt (by omega)]
  rw [BitVec.toInt_eq_toNat_of_lt (by omega), h2]

theorem sge_ofNat (a b : Nat) (ha : a < 2 ^ 31) (hb : b < 2 ^ 31) :
    IntOp.cmpi .sge (BitVec.ofNat 32 a) (BitVec.ofNat 32 b) = BitVec.ofBool (decide (b ≤ a)) := by
  simp only [IntOp.cmpi, BitVec.sle, lane_toInt _ ha, lane_toInt _ hb, Nat.cast_le]

theorem slt_ofNat (a b : Nat) (ha : a < 2 ^ 31) (hb : b < 2 ^ 31) :
    IntOp.cmpi .slt (BitVec.ofNat 32 a) (BitVec.ofNat 32 b) = BitVec.ofBool (decide (a < b)) := by
  simp only [IntOp.cmpi, BitVec.slt, lane_toInt _ ha, lane_toInt _ hb, Nat.cast_lt]

theorem eq_ofNat (a b : Nat) (ha : a < 2 ^ 31) (hb : b < 2 ^ 31) :
    IntOp.cmpi .eq (BitVec.ofNat 32 a) (BitVec.ofNat 32 b) = BitVec.ofBool (decide (a = b)) := by
  have h : (BitVec.ofNat 32 a = BitVec.ofNat 32 b) ↔ a = b := by
    constructor
    · intro e
      have e := congrArg BitVec.toInt e
      rw [lane_toInt _ ha, lane_toInt _ hb] at e
      exact_mod_cast e
    · rintro rfl; rfl
  simp only [IntOp.cmpi, ← h]
  rfl

theorem select_ofBool {α : Type} (p : Prop) [Decidable p] (a b : α) : Scalar.select (BitVec.ofBool (decide p)) a b = if p then a else b := by
  by_cases h : p <;> simp [Scalar.select, h]

theorem select_both {α : Type} (p q : Prop) [Decidable p] [Decidable q] (a b : α) :
    Scalar.select (IntOp.andi (BitVec.ofBool (decide p)) (BitVec.ofBool (decide q))) a b = if p ∧ q then a else b := by
  by_cases h : p <;> by_cases h' : q <;> simp [Scalar.select, IntOp.andi, h, h']

variable (v32 : FVec Ideal S512x1024 .bf16) (v33 : FVec Ideal S1024x128 .bf16) (r : Fin 512)

/-- The row's logits. -/
def logits (k : Fin 128) : EReal := k0_pay5 (F := Ideal) v32 v33 (ix2 r k)

theorem logits_eq (k : Fin 128) : logits v32 v33 r k = ∑ j, (v32 (ix2 r j) : EReal) * v33 (ix2 j k) := by
  unfold logits
  pointwise [k0_pay5]

theorem pay6_apply (k : Fin 128) : k0_pay6 (F := Ideal) (ix2 r k) = ((k.val : ℝ) : EReal) := by
  pointwise [k0_pay6]
  show (((BitVec.ofNat 32 k.val).toInt : ℝ) : EReal) = _
  rw [lane_toInt _ (by omega)]
  rfl

theorem pay7_apply (k : Fin 128) : k0_pay7 (F := Ideal) v32 v33 (ix2 r k) = groupLanes (logits v32 v33 r) k := by
  pointwise [k0_pay7]
  rw [show (32#32 : BitVec 32) = BitVec.ofNat 32 32 from rfl, show (36#32 : BitVec 32) = BitVec.ofNat 32 36 from rfl,
    sge_ofNat _ _ (by omega) (by omega), slt_ofNat _ _ (by omega) (by omega), select_both, bits_bot]
  rfl

/-- The least lane whose entry is the maximum, as a word. -/
theorem lowest_lane {x : Fin 128 → EReal} {p : Fin 128} (h : IsTop x p) (m : EReal) (hm : m = x p) :
    Ideal.fptosi 32 (Finset.univ.fold min ⊤ (fun k : Fin 128 => if x k = m then ((k.val : ℝ) : EReal) else ((128 : ℝ) : EReal))) =
      BitVec.ofNat 32 p.val := by
  subst hm
  rw [fold_min h (fun k => ((k.val : ℝ) : EReal)) _ (fun a b hab => by exact_mod_cast hab) (fun a => by
    have := a.isLt
    exact_mod_cast (show a.val ≤ 128 by omega))]
  exact lane_word p

variable {v32 v33 r} (hL : ∀ k, ∃ x : ℝ, logits v32 v33 r k = (x : EReal)) {g : Fin 4} {i₁ i₂ : Fin 8}
  (hp : Picks (logits v32 v33 r) g i₁ i₂)

include hL hp

theorem pay8_eq (k : Fin 1) : k0_pay8 (F := Ideal) v32 v33 (ix2 r k) = logits v32 v33 r (groupAt g) := by
  pointwise [k0_pay8]
  simp only [pay7_apply, bits_bot]
  exact (fold_max (top_groups hL hp.group)).trans (groupLanes_groupAt g)

theorem pay9_eq (k : Fin 1) : k0_pay9 (F := Ideal) v32 v33 (ix2 r k) = share (logits v32 v33 r) g := by
  pointwise [k0_pay9]
  obtain ⟨x, hx⟩ := hL (groupAt g)
  simp only [pay7_apply, pay8_eq hL hp, hx]
  rw [sum_groupLanes x, share, hx]

theorem pay10_eq (k : Fin 1) : k0_pay10 (F := Ideal) v32 v33 (ix2 r k) = BitVec.ofNat 32 g.val := by
  pointwise [k0_pay10]
  simp only [pay7_apply, pay8_eq hL hp, pay6_apply, bits_top, bits_lanes]
  refine (congrArg (fun w => IntOp.subi w 32#32) (lowest_lane (top_groups hL hp.group) _ (groupLanes_groupAt g).symm)).trans ?_
  clear hp
  revert g
  decide

theorem pay11_eq (k : Fin 1) : k0_pay11 (F := Ideal) v32 v33 (ix2 r k) = BitVec.ofNat 32 (8 * g.val) := by
  pointwise [k0_pay11]
  rw [pay10_eq hL hp]
  clear hp
  revert g
  decide

theorem pay12_eq (k : Fin 128) : k0_pay12 (F := Ideal) v32 v33 (ix2 r k) = expertLanes (logits v32 v33 r) g k := by
  pointwise [k0_pay12]
  have e : IntOp.addi (BitVec.ofNat 32 (8 * g.val)) 8#32 = BitVec.ofNat 32 (8 * g.val + 8) := by
    clear hp
    revert g
    decide
  rw [pay11_eq hL hp, e, sge_ofNat _ _ (by omega) (by omega), slt_ofNat _ _ (by omega) (by omega), select_both, bits_bot]
  rfl

theorem pay13_eq (k : Fin 1) : k0_pay13 (F := Ideal) v32 v33 (ix2 r k) = logits v32 v33 r (expertAt g i₁) := by
  pointwise [k0_pay13]
  simp only [pay12_eq hL hp, bits_bot]
  exact (fold_max (top_experts hL hp.first)).trans (expertLanes_expertAt g i₁)

theorem pay16_eq (k : Fin 1) : k0_pay16 (F := Ideal) k0_pay6 (k0_pay14 v32 v33) k0_pay15 (ix2 r k) = BitVec.ofNat 32 (expertAt g i₁).val := by
  pointwise [k0_pay16, k0_pay14, k0_pay15]
  simp only [pay12_eq hL hp, pay13_eq hL hp, pay6_apply, bits_top, bits_lanes]
  exact lowest_lane (top_experts hL hp.first) _ (expertLanes_expertAt g i₁).symm

/-- The lanes' numbers. -/
abbrev laneWords : IVec S512x128 32 := iota .tc S512x128 32 [1] iota_S512x128_d1_w32

theorem pay17_eq (k : Fin 128) : k0_pay17 (F := Ideal) laneWords k0_pay6 (k0_pay12 v32 v33) (k0_pay14 v32 v33) k0_pay15 (ix2 r k) =
    restLanes (logits v32 v33 r) g (expertAt g i₁) k := by
  pointwise [k0_pay17]
  rw [pay16_eq hL hp, pay12_eq hL hp, eq_ofNat _ _ (by omega) (by omega), select_ofBool, bits_bot]
  unfold restLanes
  simp only [Fin.ext_iff]

theorem pay18_eq (k : Fin 1) : k0_pay18 (F := Ideal) laneWords k0_pay6 (k0_pay12 v32 v33) (k0_pay14 v32 v33) k0_pay15 (ix2 r k) =
    logits v32 v33 r (expertAt g i₂) := by
  pointwise [k0_pay18]
  simp only [pay17_eq hL hp, bits_bot]
  exact (fold_max (top_rest hL hp.second)).trans (restLanes_expertAt hp.second.ne)

theorem pay19_eq (k : Fin 1) : k0_pay19 (F := Ideal) laneWords k0_pay6 (k0_pay12 v32 v33) (k0_pay14 v32 v33) k0_pay15 (ix2 r k) =
    BitVec.ofNat 32 (expertAt g i₂).val := by
  pointwise [k0_pay19]
  simp only [pay17_eq hL hp, pay18_eq hL hp, pay6_apply, bits_top, bits_lanes]
  exact lowest_lane (top_rest hL hp.second) _ (restLanes_expertAt hp.second.ne).symm

theorem pay20_eq (k : Fin 1) : k0_pay20 (F := Ideal) laneWords k0_pay6 (k0_pay12 v32 v33) (k0_pay13 v32 v33) (k0_pay14 v32 v33) k0_pay15 (ix2 r k) =
    ratio (logits v32 v33 r) g i₁ i₂ := by
  pointwise [k0_pay20]
  rw [pay18_eq hL hp, pay13_eq hL hp]
  rfl

theorem pay21_eq (k : Fin 1) : k0_pay21 (F := Ideal) laneWords k0_pay6 (k0_pay9 v32 v33) (k0_pay12 v32 v33) (k0_pay13 v32 v33) (k0_pay14 v32 v33)
    k0_pay15 (ix2 r k) = firstGate (logits v32 v33 r) g i₁ i₂ := by
  pointwise [k0_pay21]
  rw [pay20_eq hL hp, pay9_eq hL hp]
  rfl

theorem pay22_eq (k : Fin 1) : k0_pay22 (F := Ideal) laneWords k0_pay6 (k0_pay9 v32 v33) (k0_pay12 v32 v33) (k0_pay13 v32 v33) (k0_pay14 v32 v33)
    k0_pay15 (ix2 r k) = secondGate (logits v32 v33 r) g i₁ i₂ := by
  pointwise [k0_pay22]
  rw [pay20_eq hL hp, pay21_eq hL hp]
  rfl

theorem pay24_eq (k : Fin 1) : k0_pay24 (F := Ideal) laneWords k0_pay6 (k0_pay12 v32 v33) (k0_pay14 v32 v33) k0_pay15 (ix2 r k) =
    BitVec.ofBool (decide (i₁ < i₂)) := by
  pointwise [k0_pay24]
  rw [pay16_eq hL hp, pay19_eq hL hp, slt_ofNat _ _ (by omega) (by omega)]
  exact congrArg BitVec.ofBool (decide_eq_decide.mpr (expertAt_lt g))

theorem pay25_eq (k : Fin 1) : k0_pay25 (F := Ideal) laneWords k0_pay6 (k0_pay9 v32 v33) (k0_pay12 v32 v33) (k0_pay13 v32 v33) (k0_pay14 v32 v33)
    k0_pay15 (ix2 r k) = lowGate (logits v32 v33 r) g i₁ i₂ := by
  pointwise [k0_pay25]
  rw [pay24_eq hL hp, pay21_eq hL hp, pay22_eq hL hp, select_ofBool]
  rfl

theorem pay26_eq (k : Fin 1) : k0_pay26 (F := Ideal) laneWords k0_pay6 (k0_pay9 v32 v33) (k0_pay12 v32 v33) (k0_pay13 v32 v33) (k0_pay14 v32 v33)
    k0_pay15 (ix2 r k) = highGate (logits v32 v33 r) g i₁ i₂ := by
  pointwise [k0_pay26]
  rw [pay24_eq hL hp, pay21_eq hL hp, pay22_eq hL hp, select_ofBool]
  rfl

omit hL hp

theorem pay30_apply (v119 v120 : FVec Ideal S512x1 .f32) (s : Fin 16) (k : Fin 128) : k0_pay30 (F := Ideal) v32 v119 v120 (ix3 r s k) =
    routedAt (fun j => v32 (ix2 r j)) (v119 (ix2 r 0)) (v120 (ix2 r 0)) (columnAt s k) := by
  pointwise [k0_pay30]
  unfold routedAt
  have hc : (columnAt s k).val = s.val * 128 + k.val := rfl
  by_cases h1 : s.val * 128 + k.val < 1024
  · refine (dif_pos h1).trans ?_
    rw [dif_pos (show (columnAt s k).val < 1024 from h1)]
    rfl
  refine (dif_neg h1).trans (Eq.trans ?_ (dif_neg (show ¬(columnAt s k).val < 1024 from h1)).symm)
  by_cases h2 : s.val * 128 + k.val - 1024 < 128
  · exact (dif_pos h2).trans (if_pos (by omega)).symm
  refine (dif_neg h2).trans (Eq.trans ?_ (if_neg (by omega)).symm)
  by_cases h3 : s.val * 128 + k.val - 1024 - 128 < 128
  · exact (dif_pos h3).trans (if_pos (by omega)).symm
  refine (dif_neg h3).trans (Eq.trans ?_ (if_neg (by omega)).symm)
  by_cases h4 : s.val * 128 + k.val - 1024 - 128 - 128 < 128
  · exact (dif_pos h4).trans (if_pos (by omega)).symm
  refine (dif_neg h4).trans (Eq.trans ?_ (if_neg (by omega)).symm)
  by_cases h5 : s.val * 128 + k.val - 1024 - 128 - 128 - 128 < 128
  · exact (dif_pos h5).trans (if_pos (by omega)).symm
  exact (dif_neg h5).trans (if_neg (by omega)).symm

include hL hp in
/-- The payload of the routed rows. -/
theorem routed_apply (s : Fin 16) (k : Fin 128) : k0_pay30 (F := Ideal) v32
    (k0_pay25 laneWords k0_pay6 (k0_pay9 v32 v33) (k0_pay12 v32 v33) (k0_pay13 v32 v33) (k0_pay14 v32 v33) k0_pay15)
    (k0_pay26 laneWords k0_pay6 (k0_pay9 v32 v33) (k0_pay12 v32 v33) (k0_pay13 v32 v33) (k0_pay14 v32 v33) k0_pay15) (ix3 r s k) =
    routedAt (fun j => v32 (ix2 r j)) (lowGate (logits v32 v33 r) g i₁ i₂) (highGate (logits v32 v33 r) g i₁ i₂) (columnAt s k) := by
  rw [pay30_apply, pay25_eq hL hp, pay26_eq hL hp]

end Cert.Router
-- ==== Proof.Finite.lean ====
module

public import proofs.«01_k».proof.Proof.Normed
public import proofs.«01_k».proof.Pre_router_finite
public import Idealize.ShloMosaic.Lib.ReduceAll

@[expose] public section

/-!
# Finite gains and router's weights

Over the extended reals: the precondition says that every entry of them is real; sums and products of reals are, and a normalised row
is, whatever the row.
-/

set_option maxRecDepth 16384

noncomputable section

namespace Cert.Router

open Idealize.ShloMosaic

/-- An entry that is real. -/
def IsReal (x : EReal) : Prop := ∃ a : ℝ, x = (a : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih =>
    rw [Finset.sum_insert ha]
    exact (h a).add ih

theorem isReal_zero : IsReal 0 := ⟨0, rfl⟩

/-- A sum of squares of reals is real and not negative. -/
theorem sum_squares {ι : Type} (s : Finset ι) {f : ι → EReal} (h : ∀ i, IsReal (f i)) : ∃ a : ℝ, 0 ≤ a ∧ ∑ i ∈ s, f i * f i = (a : EReal) := by
  classical
  induction s using Finset.induction_on with
  | empty => exact ⟨0, le_rfl, by simp⟩
  | insert i s hi ih =>
    obtain ⟨a, ha, e⟩ := ih
    obtain ⟨b, hb⟩ := h i
    refine ⟨b * b + a, add_nonneg (mul_self_nonneg b) ha, ?_⟩
    rw [Finset.sum_insert hi, e, hb]
    norm_cast

theorem row_length : Ideal.ofBits .f32 0x44800000#32 = ((1024 : ℝ) : EReal) := by
  simp only [Ideal.ofBits, Ideal.ieee]
  simp
  rw [← EReal.coe_mul]
  norm_num

theorem small_positive : ∃ a : ℝ, 0 < a ∧ Ideal.ofBits .f32 0x358637BD#32 = (a : EReal) := by
  refine ⟨_, ?_, by simp [Ideal.ofBits, Ideal.ieee]; rfl⟩
  positivity

theorem square_nonneg (x : EReal) : 0 ≤ x * x := by
  induction x with
  | bot => simp
  | top => simp
  | coe a =>
    rw [← EReal.coe_mul]
    exact_mod_cast mul_self_nonneg a

theorem square_infinite {x : EReal} (h : ¬IsReal x) : x * x = ⊤ := by
  induction x with
  | bot => rfl
  | top => rfl
  | coe a => exact absurd ⟨a, rfl⟩ h

/-- The reciprocal root of an infinite sum is zero, so an infinite row is normalised to zeros. -/
theorem IsReal.normed {x g : Fin 1024 → EReal} (hg : ∀ k, IsReal (g k)) (k : Fin 1024) : IsReal (Projection.normed x g k) := by
  unfold Projection.normed
  refine IsReal.mul ?_ (hg k)
  obtain ⟨b, hb, eb⟩ := small_positive
  rw [eb, row_length, Ideal.div_coe (by norm_num)]
  by_cases hx : ∀ k, IsReal (x k)
  · refine (hx k).mul ?_
    obtain ⟨a, ha, ea⟩ := sum_squares Finset.univ hx
    rw [ea, ← EReal.coe_mul, ← EReal.coe_add, Ideal.rsqrt_coe]
    have hpos : 0 < a * (1 / 1024) + b := by positivity
    rw [if_neg (not_lt.mpr hpos.le), if_neg hpos.ne']
    exact ⟨_, rfl⟩
  · obtain ⟨j, hj⟩ := not_forall.mp hx
    have hs : ∑ i, x i * x i = ⊤ := by
      apply top_le_iff.mp
      rw [← square_infinite hj]
      exact Finset.single_le_sum (f := fun i => x i * x i) (fun i _ => square_nonneg (x i)) (Finset.mem_univ j)
    rw [hs, EReal.top_mul_coe_of_pos (by norm_num), EReal.top_add_coe, Ideal.rsqrt_top, mul_zero]
    exact isReal_zero

/-- An entry whose magnitude is below the top is real. -/
theorem real_of_bounded {x : EReal} (h : max x (-x) < ⊤) : IsReal x := by
  induction x with
  | bot => exact absurd h (by simp)
  | top => exact absurd h (by simp)
  | coe a => exact ⟨a, rfl⟩

theorem and_one {a b : BitVec 1} (h : IntOp.andi a b = 1#1) : a = 1#1 ∧ b = 1#1 := by
  revert a b
  decide

theorem top_bits : Ideal.ofBits .f32 0x7F800000#32 = ⊤ := by simp [Ideal.ofBits, Ideal.ieee]

section

open Cert.Pre_router_finite

variable [Cert.Pre_router_finite.Facts]

/-- The precondition's comparison of an array's entries with the top. -/
theorem real_of_compare {s : Shape} (hb : (⟨0, ![]⟩ : Shape).BroadcastsInDim s (![] : Fin 0 → Fin s.rank)) (x : FVec Ideal s .f32) (i : s.Idx)
    (h : cmpf .olt (Host.absf x) (broadcastInDim s ![] hb (constant (⟨0, ![]⟩ : Shape) .f32 0x7F800000#32)) i = 1#1) : IsReal (x i) := by
  have h' : BitVec.ofBool (decide (max (x i : EReal) (-(x i)) < Ideal.ofBits .f32 0x7F800000#32)) = 1#1 := h
  rw [top_bits] at h'
  refine real_of_bounded ?_
  by_contra hn
  rw [decide_eq_false hn] at h'
  exact absurd h' (by decide)

/-- Every entry of the gains and of the router's weights is real. -/
structure FiniteRouter (g : FVec Ideal S1x1024 .f32) (U : FVec Ideal S1x1024x4 .f32) (V : FVec Ideal S1x1024x32 .f32) : Prop where
  g : ∀ i, IsReal (g i)
  u : ∀ i, IsReal (U i)
  v : ∀ i, IsReal (V i)

instance : Subsingleton S_.Idx := ⟨fun _ _ => funext fun a => a.elim0⟩

theorem finite_of_pre {X : FVec Ideal S32x2048x1024 .f32} {A B : FVec Ideal S32x2048x512 .bf16} {W : FVec Ideal S1x1024x1024 .f32}
    {g : FVec Ideal S1x1024 .f32} {U : FVec Ideal S1x1024x4 .f32} {V : FVec Ideal S1x1024x32 .f32} {C : FVec Ideal S8x128 .f32}
    (h : Cert.Pre_router_finite.fn (F := Ideal) X A B W g U V C = fun _ => 1#1) : FiniteRouter g U V := by
  have e := congrFun h (fun a => a.elim0)
  simp only [Cert.Pre_router_finite.fn] at e
  obtain ⟨e, ev⟩ := and_one e
  obtain ⟨eg, eu⟩ := and_one e
  exact ⟨fun i => real_of_compare _ g i (Host.reduce_andi_all _ _ _ _ _ eg i),
    fun i => real_of_compare _ U i (Host.reduce_andi_all _ _ _ _ _ eu i),
    fun i => real_of_compare _ V i (Host.reduce_andi_all _ _ _ _ _ ev i)⟩

end

end Cert.Router
-- ==== Proof.Router.lean ====
module

public import proofs.«01_k».proof.Proof.RefGates
public import proofs.«01_k».proof.Proof.RouterRow
public import proofs.«01_k».proof.Proof.Finite
public import proofs.«01_k».proof.Proof.Gen.Kernel4Ideal.Value
public import Idealize.ShloMosaic.Lib.Pipeline.ValueKit
public import Idealize.ShloMosaic.Lib.Pipeline.Covers
public import Idealize.ShloMosaic.Lib.StableHlo.ReadAt

@[expose] public section

/-!
# What the output projection's launch leaves in its second array

Over the extended reals, for real gains and router's weights: what one tile of routed rows computes, the blocks read off the arguments, and the array
the launch leaves, which is the reference's.
-/

set_option maxRecDepth 16384

noncomputable section

namespace Cert.Router

open Cert.Kernel4Ideal Cert.Kernel4Ideal.Gen
open Idealize.ShloMosaic Idealize.ShloMosaic.TcCoe Idealize.SL.Sem
open Idealize.ShloMosaic.Pipeline (Dat Cfg Window)
open Cert.Projection (seqOf posOf normed)
open Cert.Residual (lowRow highRow residual)

attribute [local instance] Cert.Kernel4Ideal.Gen.facts

/-- The residual sum's payload at an entry. -/
theorem sum_apply (x : FVec Ideal S512x1024 .f32) (a : FVec Ideal S512x512 .bf16) (wa : FVec Ideal S512x1024 .bf16) (b : FVec Ideal S512x512 .bf16)
    (wb : FVec Ideal S512x1024 .bf16) (r : Fin 512) (n : Fin 1024) : k0_pay3 (F := Ideal) x a wa b wb (ix2 r n) =
      ((x (ix2 r n) : EReal) + ∑ k, (a (ix2 r k) : EReal) * wa (ix2 k n) + ∑ k, (b (ix2 r k) : EReal) * wb (ix2 k n)) := by
  pointwise [k0_pay3]

/-- The normalised row's payload at an entry. -/
theorem normed_apply (x : FVec Ideal S512x1024 .f32) (a : FVec Ideal S512x512 .bf16) (wa : FVec Ideal S512x1024 .bf16) (b : FVec Ideal S512x512 .bf16)
    (wb : FVec Ideal S512x1024 .bf16) (g : FVec Ideal S1x1024 .f32) (r : Fin 512) (n : Fin 1024) : k0_pay4 (F := Ideal) x a wa b wb g (ix2 r n) =
      normed (fun j => k0_pay3 (F := Ideal) x a wa b wb (ix2 r j)) (fun j => g (ix2 0 j)) n := by
  pointwise [k0_pay4]
  rfl

variable (m : (ℓ : Loc nD τ sig) → Buf (Elt Ideal) ℓ)

/-- A point's normalised rows. -/
def tokensAt (c : Dev nD) (t : Fin cfg0.N) : FVec Ideal S512x1024 .bf16 :=
  k0_pay4 (F := Ideal) (iblk m c 0 t) (iblk m c 1 t) (iblk m c 3 t) (iblk m c 2 t) (iblk m c 4 t) (iblk m c 5 t)

/-- The router's weights, as the point reads them. -/
def routerBlock (c : Dev nD) (t : Fin cfg0.N) : FVec Ideal S1024x128 .bf16 := iblk m c 6 t

/-- A tile of routed rows from its normalised rows and the router's weights. -/
def routedTile (v32 : FVec Ideal S512x1024 .bf16) (v33 : FVec Ideal S1024x128 .bf16) : FVec Ideal S512x16x128 .bf16 :=
  k0_pay30 (F := Ideal) v32
    (k0_pay25 laneWords k0_pay6 (k0_pay9 v32 v33) (k0_pay12 v32 v33) (k0_pay13 v32 v33) (k0_pay14 v32 v33) k0_pay15)
    (k0_pay26 laneWords k0_pay6 (k0_pay9 v32 v33) (k0_pay12 v32 v33) (k0_pay13 v32 v33) (k0_pay14 v32 v33) k0_pay15)

/-- A point's tile of the second output. -/
@[irreducible] def tileAt (c : Dev nD) (t : Fin cfg0.N) : FVec Ideal S512x16x128 .bf16 := routedTile (tokensAt m c t) (routerBlock m c t)

/-- Both cases of the body leave it. -/
theorem after_10 (c : Dev nD) (t : Fin cfg0.N) : (dats m 0 c).after 10 t = tileAt m c t := by
  unfold tileAt routedTile tokensAt routerBlock
  rw [after0_10]
  by_cases h : t.val % 128 = 0
  · rw [outsAt0_A m c t h]
    frame_out
  · rw [outsAt0_B m c t h]
    frame_out

/-- Row `r` of a point's tile, as a row of the array. -/
def rowAt (t : Fin cfg0.N) (r : Fin 512) : Fin 65536 := ⟨t.val * 512 + r.val, by
  have ht : t.val < 128 := t.isLt
  omega⟩

theorem coord_0 (t : Fin cfg0.N) : (grid0.coords t 0).val = t.val := by
  revert t
  decide +kernel

theorem index_0 (t : Fin cfg0.N) : (cfg0.win 0).index t = ![t.val, 0] := by
  have ht : t.val < 128 := t.isLt
  show ![(BitVec.ofNat 32 (grid0.coords t 0).val).toNat, 0] = _
  rw [coord_0, BitVec.toNat_ofNat, Nat.mod_eq_of_lt (by omega)]

theorem index_1 (t : Fin cfg0.N) : (cfg0.win 1).index t = ![t.val, 0] := index_0 t
theorem index_2 (t : Fin cfg0.N) : (cfg0.win 2).index t = ![t.val, 0] := index_0 t

theorem index_10 (t : Fin cfg0.N) : (cfg0.win 10).index t = ![t.val, 0, 0] := by
  have ht : t.val < 128 := t.isLt
  show ![(BitVec.ofNat 32 (grid0.coords t 0).val).toNat, 0, 0] = _
  rw [coord_0, BitVec.toNat_ofNat, Nat.mod_eq_of_lt (by omega)]

theorem entry_v4 (c : Dev nD) (r : Fin 65536) (k : Fin 1024) :
    V m c main_v4 (ix2 r k) = m ((c.tc : Thread nD τ).loc main_arg0) (ix3 (seqOf r) (posOf r) k) := by
  unfold V
  after_reads_at
  rfl

theorem entry_v5 (c : Dev nD) (r : Fin 65536) (k : Fin 512) :
    V m c main_v5 (ix2 r k) = m ((c.tc : Thread nD τ).loc main_arg1) (ix3 (seqOf r) (posOf r) k) := by
  unfold V
  after_reads_at
  rfl

theorem entry_v6 (c : Dev nD) (r : Fin 65536) (k : Fin 512) :
    V m c main_v6 (ix2 r k) = m ((c.tc : Thread nD τ).loc main_arg2) (ix3 (seqOf r) (posOf r) k) := by
  unfold V
  after_reads_at
  rfl

/-- The weights' argument, at its type. -/
abbrev weightsIn (c : Dev nD) : FVec Ideal S1x1024x1024 .f32 := m ((c.tc : Thread nD τ).loc main_arg3)

theorem entry_v9 (c : Dev nD) (k : Fin 512) (n : Fin 1024) : V m c main_v9 (ix2 k n) = weightsIn m c (ix3 0 (lowRow k) n) := by
  unfold V
  after_reads_at
  rfl

theorem entry_v12 (c : Dev nD) (k : Fin 512) (n : Fin 1024) : V m c main_v12 (ix2 k n) = weightsIn m c (ix3 0 (highRow k) n) := by
  unfold V
  after_reads_at
  rfl

theorem block_0 (c : Dev nD) (t : Fin cfg0.N) (r : Fin 512) (k : Fin 1024) :
    iblk m c 0 t (ix2 r k) = m ((c.tc : Thread nD τ).loc main_arg0) (ix3 (seqOf (rowAt t r)) (posOf (rowAt t r)) k) := by
  show V m c main_v4 (((cfg0.win 0).rect t).emb (ix2 r k)) = _
  refine Eq.trans (congrArg (V m c main_v4) (funext fun a => Fin.ext ?_)) (entry_v4 m c (rowAt t r) k)
  refine (Window.rect_emb_val (cfg0.win 0) t (ix2 r k) a rfl).trans ?_
  rw [index_0]
  fin_cases a
  · rfl
  · exact Nat.zero_add _

theorem block_1 (c : Dev nD) (t : Fin cfg0.N) (r : Fin 512) (k : Fin 512) :
    iblk m c 1 t (ix2 r k) = m ((c.tc : Thread nD τ).loc main_arg1) (ix3 (seqOf (rowAt t r)) (posOf (rowAt t r)) k) := by
  show V m c main_v5 (((cfg0.win 1).rect t).emb (ix2 r k)) = _
  refine Eq.trans (congrArg (V m c main_v5) (funext fun a => Fin.ext ?_)) (entry_v5 m c (rowAt t r) k)
  refine (Window.rect_emb_val (cfg0.win 1) t (ix2 r k) a rfl).trans ?_
  rw [index_1]
  fin_cases a
  · rfl
  · exact Nat.zero_add _

theorem block_2 (c : Dev nD) (t : Fin cfg0.N) (r : Fin 512) (k : Fin 512) :
    iblk m c 2 t (ix2 r k) = m ((c.tc : Thread nD τ).loc main_arg2) (ix3 (seqOf (rowAt t r)) (posOf (rowAt t r)) k) := by
  show V m c main_v6 (((cfg0.win 2).rect t).emb (ix2 r k)) = _
  refine Eq.trans (congrArg (V m c main_v6) (funext fun a => Fin.ext ?_)) (entry_v6 m c (rowAt t r) k)
  refine (Window.rect_emb_val (cfg0.win 2) t (ix2 r k) a rfl).trans ?_
  rw [index_2]
  fin_cases a
  · rfl
  · exact Nat.zero_add _

theorem block_3 (c : Dev nD) (t : Fin cfg0.N) (k : Fin 512) (n : Fin 1024) :
    iblk m c 3 t (ix2 k n) = weightsIn m c (ix3 0 (lowRow k) n) := by
  show V m c main_v9 (((cfg0.win 3).rect t).emb (ix2 k n)) = _
  refine Eq.trans (congrArg (V m c main_v9) (funext fun a => Fin.ext ?_)) (entry_v9 m c k n)
  refine (Window.rect_emb_val (cfg0.win 3) t (ix2 k n) a rfl).trans ?_
  rw [show (cfg0.win 3).index t = ![0, 0] from rfl]
  fin_cases a
  · exact Nat.zero_add _
  · exact Nat.zero_add _

theorem block_4 (c : Dev nD) (t : Fin cfg0.N) (k : Fin 512) (n : Fin 1024) :
    iblk m c 4 t (ix2 k n) = weightsIn m c (ix3 0 (highRow k) n) := by
  show V m c main_v12 (((cfg0.win 4).rect t).emb (ix2 k n)) = _
  refine Eq.trans (congrArg (V m c main_v12) (funext fun a => Fin.ext ?_)) (entry_v12 m c k n)
  refine (Window.rect_emb_val (cfg0.win 4) t (ix2 k n) a rfl).trans ?_
  rw [show (cfg0.win 4).index t = ![0, 0] from rfl]
  fin_cases a
  · exact Nat.zero_add _
  · exact Nat.zero_add _

/-- The arguments, at their types. -/
abbrev gainsIn (c : Dev nD) : FVec Ideal S1x1024 .f32 := m ((c.tc : Thread nD τ).loc main_arg4)
abbrev groupsIn (c : Dev nD) : FVec Ideal S1x1024x4 .f32 := m ((c.tc : Thread nD τ).loc main_arg5)
abbrev expertsIn (c : Dev nD) : FVec Ideal S1x1024x32 .f32 := m ((c.tc : Thread nD τ).loc main_arg6)

theorem entry_v14 (c : Dev nD) (k : Fin 1024) : V m c main_v14 (ix2 0 k) = gainsIn m c (ix2 0 k) := by
  unfold V
  after_reads_at

/-- The router's weights: the experts' columns, the groups' and zeros. -/
def routerAt (U : FVec Ideal S1x1024x4 .f32) (E : FVec Ideal S1x1024x32 .f32) (j : Fin 1024) (k : Fin 128) : EReal :=
  if h : k.val < 32 then E (ix3 0 j ⟨k.val, h⟩) else if h : k.val - 32 < 4 then U (ix3 0 j ⟨k.val - 32, h⟩) else 0

theorem entry_v15 (c : Dev nD) (j : Fin 1024) (k : Fin 128) : V m c main_v15 (ix2 j k) = routerAt (groupsIn m c) (expertsIn m c) j k := by
  unfold V
  after_reads_at
  unfold routerAt
  by_cases h : k.val < 32
  · refine (dif_pos h).trans (Eq.trans ?_ (dif_pos h).symm)
    after_reads_at
  · refine (dif_neg h).trans (Eq.trans ?_ (dif_neg h).symm)
    by_cases h' : k.val - 32 < 4
    · refine (dif_pos h').trans (Eq.trans ?_ (dif_pos h').symm)
      after_reads_at
    · refine (dif_neg h').trans (Eq.trans ?_ (dif_neg h').symm)
      after_reads_at

theorem block_5 (c : Dev nD) (t : Fin cfg0.N) (k : Fin 1024) : iblk m c 5 t (ix2 0 k) = gainsIn m c (ix2 0 k) := by
  show V m c main_v14 (((cfg0.win 5).rect t).emb (ix2 0 k)) = _
  refine Eq.trans (congrArg (V m c main_v14) (funext fun a => Fin.ext ?_)) (entry_v14 m c k)
  refine (Window.rect_emb_val (cfg0.win 5) t (ix2 0 k) a rfl).trans ?_
  rw [show (cfg0.win 5).index t = ![0, 0] from rfl]
  fin_cases a
  · exact Nat.zero_add _
  · exact Nat.zero_add _

theorem block_6 (c : Dev nD) (t : Fin cfg0.N) (j : Fin 1024) (k : Fin 128) :
    routerBlock m c t (ix2 j k) = routerAt (groupsIn m c) (expertsIn m c) j k := by
  show V m c main_v15 (((cfg0.win 6).rect t).emb (ix2 j k)) = _
  refine Eq.trans (congrArg (V m c main_v15) (funext fun a => Fin.ext ?_)) (entry_v15 m c j k)
  refine (Window.rect_emb_val (cfg0.win 6) t (ix2 j k) a rfl).trans ?_
  rw [show (cfg0.win 6).index t = ![0, 0] from rfl]
  fin_cases a
  · exact Nat.zero_add _
  · exact Nat.zero_add _

/-- Every block of the output array is some tile's. -/
theorem covers : (cfg0.win 10).Covers :=
  (cfg0.win 10).covers_of_index_surj rfl (fun a => by fin_cases a <;> exact Nat.succ_pos _) fun β => by
    have hb : (β 0).val < 128 := Nat.lt_of_lt_of_eq (β 0).isLt (show (65536 + 512 - 1) / 512 = 128 by decide)
    refine ⟨⟨(β 0).val, hb⟩, fun a => ?_⟩
    rw [index_10]
    fin_cases a
    · rfl
    · have hb : (β 1).val < 1 := Nat.lt_of_lt_of_eq (β 1).isLt (show (16 + 16 - 1) / 16 = 1 by decide)
      show 0 = (β 1).val
      omega
    · have hb : (β 2).val < 1 := Nat.lt_of_lt_of_eq (β 2).isLt (show (128 + 128 - 1) / 128 = 1 by decide)
      show 0 = (β 2).val
      omega

theorem emb_10 (t : Fin cfg0.N) (r : Fin 512) (s : Fin 16) (k : Fin 128) :
    ((cfg0.win 10).blk t).view.emb (ix3 r s k) = ix3 (rowAt t r) s k := by
  funext a
  apply Fin.ext
  refine (Window.rect_emb_val (cfg0.win 10) t (ix3 r s k) a rfl).trans ?_
  rw [index_10]
  fin_cases a
  · rfl
  · exact Nat.zero_add _
  · exact Nat.zero_add _

/-- The reference's functions of the arguments, at the launch memory. -/
def tokensOf (c : Dev nD) : FVec Ideal S65536x1024 .f32 :=
  tokenRows (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

def routedOfArgs (c : Dev nD) : FVec Ideal S65536x16x128 .bf16 :=
  routedRows (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- A point's normalised rows are the reference's. -/
theorem tokensAt_apply (c : Dev nD) (t : Fin cfg0.N) (r : Fin 512) (n : Fin 1024) : tokensAt m c t (ix2 r n) = tokensOf m c (ix2 (rowAt t r) n) := by
  unfold tokensAt tokensOf tokenRows
  refine (normed_apply _ _ _ _ _ _ r n).trans ?_
  refine Eq.trans ?_ (Cert.Projection.normedRows_apply _ _ (rowAt t r) n).symm
  have hx : ∀ j : Fin 1024, k0_pay3 (F := Ideal) (iblk m c 0 t) (iblk m c 1 t) (iblk m c 3 t) (iblk m c 2 t) (iblk m c 4 t) (ix2 r j) =
      Cert.Residual.residualRows (m ((c.tc : Thread nD τ).loc main_arg0)) (m ((c.tc : Thread nD τ).loc main_arg1))
        (m ((c.tc : Thread nD τ).loc main_arg2)) (m ((c.tc : Thread nD τ).loc main_arg3)) (ix2 (rowAt t r) j) := fun j => by
    refine (sum_apply _ _ _ _ _ r j).trans ?_
    refine Eq.trans ?_ (Cert.Residual.residualRows_apply _ _ _ _ (rowAt t r) j).symm
    simp only [block_0, block_1, block_2, block_3, block_4]
    rfl
  have hg : ∀ j : Fin 1024, (shapeCast Cert.Reference2Ideal.S1024 (gainsIn m c) Cert.Reference4Ideal.Gen.shapeCasts_S1x1024_S1024 : _ → EReal) (ix1 j) =
      gainsIn m c (ix2 0 j) := fun j => by
    pointwise
  simp only [hx, block_5]
  exact congrArg (fun g => normed _ g n) (funext fun j => (hg j).symm)

theorem tokensOf_real (c : Dev nD) (hf : FiniteRouter (gainsIn m c) (groupsIn m c) (expertsIn m c))
    (R : Fin 65536) (n : Fin 1024) : IsReal (tokensOf m c (ix2 R n)) := by
  unfold tokensOf tokenRows
  rw [Cert.Projection.normedRows_apply]
  exact IsReal.normed (fun k => hf.g _) n

theorem tileAt_apply (c : Dev nD) (hf : FiniteRouter (gainsIn m c) (groupsIn m c) (expertsIn m c))
    (t : Fin cfg0.N) (r : Fin 512) (s : Fin 16) (k : Fin 128) : tileAt m c t (ix3 r s k) = routedOfArgs m c (ix3 (rowAt t r) s k) := by
  have hl : ∀ k, logits (tokensAt m c t) (routerBlock m c t) r k =
      ∑ j, tokensOf m c (ix2 (rowAt t r) j) * routerAt (groupsIn m c) (expertsIn m c) j k := fun k => by
    rw [logits_eq]
    exact Finset.sum_congr rfl fun j _ => by rw [tokensAt_apply, block_6]
  have hL : ∀ k, ∃ x : ℝ, logits (tokensAt m c t) (routerBlock m c t) r k = (x : EReal) := fun k => by
    rw [hl]
    refine IsReal.sum _ fun j => (tokensOf_real m c hf (rowAt t r) j).mul ?_
    unfold routerAt
    split
    · exact hf.v _
    · split
      · exact hf.u _
      · exact isReal_zero
  obtain ⟨g, i₁, i₂, hp⟩ := exists_picks (logits (tokensAt m c t) (routerBlock m c t) r)
  unfold tileAt routedTile
  refine (routed_apply hL hp s k).trans ?_
  unfold routedOfArgs routedRows
  refine Eq.trans ?_ (routedOf_apply hL _ _ _ (rowAt t r) (fun g => ?_) (fun g j => ?_) hp s k).symm
  · simp only [tokensAt_apply]
    rfl
  · rw [hl]
    refine Finset.sum_congr rfl fun j _ => congrArg (fun w : EReal => tokensOf m c (ix2 (rowAt t r) j) * w) ?_
    have hn : ¬(groupAt g).val < 32 := by show ¬32 + g.val < 32; omega
    have hy : (groupAt g).val - 32 < 4 := by show 32 + g.val - 32 < 4; omega
    refine Eq.trans ?_ ((dif_neg hn).trans (dif_pos hy)).symm
    refine Eq.trans (b := groupsIn m c (ix3 0 j g)) ?_ (congrArg (fun q => groupsIn m c (ix3 0 j q)) (Fin.ext (by show g.val = 32 + g.val - 32; omega)))
    pointwise
  · rw [hl]
    refine Finset.sum_congr rfl fun i _ => congrArg (fun w : EReal => tokensOf m c (ix2 (rowAt t r) i) * w) ?_
    have hy : (expertAt g j).val < 32 := by show 8 * g.val + j.val < 32; omega
    refine Eq.trans ?_ (dif_pos hy).symm
    refine Eq.trans (b := expertsIn m c (ix3 0 i ⟨8 * g.val + j.val, by omega⟩)) ?_ rfl
    pointwise

/-- The second output array after the launch. -/
theorem final (c : Dev nD) (hf : FiniteRouter (gainsIn m c) (groupsIn m c) (expertsIn m c)) :
    (dats m 0 c).arrAt 10 cfg0.N = routedOfArgs m c := by
  refine (dats m 0 c).arrAt_eq_of_covers 10 _ covers fun t _ y => ?_
  have key : ∀ y : S512x16x128.Idx, tileAt m c t y = routedOfArgs m c (((cfg0.win 10).blk t).view.emb y) := fun y => by
    have hy : y = ix3 (y 0) (y 1) (y 2) := by funext a; fin_cases a <;> rfl
    rw [hy]
    exact (tileAt_apply m c hf t (y 0) (y 1) (y 2)).trans (congrArg (routedOfArgs m c) (emb_10 t (y 0) (y 1) (y 2)).symm)
  rw [after_10]
  exact key y

end Cert.Router
-- ==== Proof.RefPositions.lean ====
module

public import proofs.«01_k».proof.Proof.Gen.Reference5Ideal.Run
public import Idealize.ShloMosaic.Lib.Pipeline.ValueKit
public import Idealize.ShloMosaic.Lib.StableHlo.ReadAt

@[expose] public section

/-!
# What the reference of the positions computes

A token's position is where its class starts, a sum over the classes of the start of the one that is the token's, plus its rank.
-/

set_option maxRecDepth 16384

noncomputable section

namespace Cert.Positions

open Cert.Reference5Ideal Cert.Reference5Ideal.Gen
open Idealize.ShloMosaic Idealize.ShloMosaic.TcCoe Idealize.SL.Sem

attribute [local instance] Cert.Reference5Ideal.Gen.facts

/-- The reference as a function of its arguments. -/
def positions (starts : IVec S128 32) (M : IVec S8x65536 32) : IVec S8x65536 32 :=
  broadcastInDim S8x65536 ![1] bcast_S65536_S8x65536_1 (addi (Host.reduce IntOp.addi (muli (extui 32 (cmpi .eq
    (broadcastInDim S65536x112 ![0, 1] bcast_S65536x1_S65536x112_0_1 (broadcastInDim S65536x1 ![0] bcast_S65536_S65536x1_0
      (shapeCast _ (extractStridedSlice S1x65536 ![0, 0] M slices_S8x65536_S1x65536_0_0) shapeCasts_S1x65536_S65536)))
    (broadcastInDim S65536x112 ![0, 1] bcast_S1x112_S65536x112_0_1 (iotaInDim S1x112 32 1))) natLt_1_32)
    (broadcastInDim S65536x112 ![0, 1] bcast_S1x112_S65536x112_0_1 (broadcastInDim S1x112 ![1] bcast_S112_S1x112_1
      (extractStridedSlice S112 ![0] starts slices_S128_S112_0)))) (constantI S_ 32 0#32) reducesTo_S65536x112_S65536_d1 h_S_)
    (shapeCast _ (extractStridedSlice S1x65536 ![1, 0] M slices_S8x65536_S1x65536_1_0) shapeCasts_S1x65536_S65536))

theorem positions_run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v11) = positions (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2⟩) (Value.run (F := Ideal) m g)

/-- The start of class `k`, if it is the token's, else zero. -/
def startOf (starts : IVec S128 32) (cls : BitVec 32) (k : ℕ) : BitVec 32 :=
  Scalar.select (IntOp.cmpi .eq cls (BitVec.ofNat 32 k)) (starts (ix1 (Fin.ofNat 128 k))) 0#32

/-- The rank and the starts of the first `n` classes. -/
def upTo (r : BitVec 32) (f : ℕ → BitVec 32) : ℕ → BitVec 32
  | 0 => r
  | n + 1 => IntOp.addi (upTo r f n) (f n)

theorem addi_assoc (a b c : BitVec 32) : IntOp.addi (IntOp.addi a b) c = IntOp.addi a (IntOp.addi b c) := BitVec.add_assoc a b c
theorem addi_comm (a b : BitVec 32) : IntOp.addi a b = IntOp.addi b a := BitVec.add_comm a b

/-- The sum over the classes, and then the rank. -/
theorem fold_upTo (r : BitVec 32) (f : ℕ → BitVec 32) (n : ℕ) :
    IntOp.addi (Finset.fold IntOp.addi (0#32) (fun k : Fin n => f k) Finset.univ) r = upTo r f n := by
  induction n with
  | zero => exact BitVec.zero_add r
  | succ n ih =>
    rw [Fin.univ_castSuccEmb, Finset.fold_cons, Finset.fold_map, upTo, ← ih, addi_assoc, addi_comm]
    rfl

/-- A class's bit times a word. -/
theorem bit_mul (a b s : BitVec 32) : IntOp.muli (BitVec.setWidth 32 (IntOp.cmpi .eq a b)) s =
    Scalar.select (IntOp.cmpi .eq a b) s 0#32 := by
  have key : ∀ x : BitVec 1, x = 0#1 ∨ x = 1#1 := by decide
  rcases key (IntOp.cmpi .eq a b) with e | e <;> rw [e]
  · exact BitVec.zero_mul
  · exact BitVec.one_mul s

theorem positions_apply (starts : IVec S128 32) (M : IVec S8x65536 32) (s : Fin 8) (t : Fin 65536) :
    positions starts M (ix2 s t) = upTo (M (ix2 1 t)) (startOf starts (M (ix2 0 t))) 112 := by
  rw [← fold_upTo]
  pointwise [positions]
  refine congrArg (fun f : Fin 112 → BitVec 32 => IntOp.addi (Finset.fold IntOp.addi (0#32) f Finset.univ) (M (ix2 1 t))) (funext fun k => ?_)
  refine (bit_mul _ _ _).trans ?_
  unfold startOf
  rw [show Fin.ofNat 128 k.val = ⟨k.val, by omega⟩ from Fin.ext (Nat.mod_eq_of_lt (by omega))]

end Cert.Positions
-- ==== Proof.Positions.lean ====
module

public import proofs.«01_k».proof.Proof.RefPositions
public import proofs.«01_k».proof.Proof.Gen.Kernel5Ideal.Frame
public import Idealize.ShloMosaic.Lib.Pipeline.ValueKit
public import Idealize.ShloMosaic.Lib.Pipeline.Covers
public import Idealize.ShloMosaic.Lib.StableHlo.ReadAt

@[expose] public section

/-!
# What the positions' launch leaves in its array

What one tile of tokens computes, the block read off the argument, the array the launch leaves, which is the reference's, and
the run's ends.
-/

set_option maxRecDepth 16384

noncomputable section

namespace Cert.Positions

open Cert.Kernel5Ideal Cert.Kernel5Ideal.Gen
open Idealize.ShloMosaic Idealize.ShloMosaic.TcCoe Idealize.SL.Sem
open Idealize.ShloMosaic.Pipeline (Dat Cfg Window)

attribute [local instance] Cert.Kernel5Ideal.Gen.facts

variable (m : (ℓ : Loc nD τ sig) → Buf (Elt Ideal) ℓ)

/-- The word a scalar load of entry `k` reads. -/
theorem word_at (c : Dev nD) (T : TbBuf0 (F := Ideal) c tbM0_0) (k : ℕ) (h : ∀ a, (![k] : Fin 1 → ℕ) a + (![1] : Fin 1 → ℕ) a ≤ S128.size a) (hp) :
    View.ld (View.read (Elt Ideal) (View.whole main_arg0) T) (Rect.unit (s := S128) ![k] ![1] h) (Shape.Idx.first hp)
      = (T : IVec S128 32) (ix1 (Fin.ofNat 128 k)) := by
  have hk : k + 1 ≤ 128 := h 0
  refine congrArg (T : IVec S128 32) (funext fun a => Fin.ext ?_)
  have hf : (Shape.Idx.first hp (0 : Fin 1)).val < 1 := (Shape.Idx.first hp 0).isLt
  fin_cases a
  show k + 1 * (Shape.Idx.first hp (0 : Fin 1)).val = k % 128
  rw [Nat.mod_eq_of_lt (by omega)]
  omega

/-- The last class, and the rows of the block. -/
theorem last_apply (a : IVec S1x4096 32) (b : IVec S1x4096 1) (w : BitVec 32) (s : Fin 8) (j : Fin 4096) :
    k0_pay1 (F := Ideal) a b w (ix2 s j) = IntOp.addi (a (ix2 0 j)) (Scalar.select (b (ix2 0 j)) w 0#32) := by
  pointwise [k0_pay1]

/-- What the body leaves at an entry: the column's rank and the start of its class. -/
theorem body_apply (c : Dev nD) (i : grid0.Coords) (arg2 : Memref sig .tc .vmem S8x4096 .i32) (harg2 : arg2.IsWhole)
    (arg3 : Memref sig .tc .vmem S8x4096 .i32) (harg3 : arg3.IsWhole) (x : Vec Ideal S8x4096 .i32) (T : TbBuf0 (F := Ideal) c tbM0_0)
    (s : Fin 8) (j : Fin 4096) :
    out0_A_1 c i arg2 harg2 arg3 harg3 x T (ix2 s j) = upTo (x (ix2 1 j)) (startOf T (x (ix2 0 j))) 112 := by
  frame_out
  rw [last_apply]
  simp only [word_at]
  generalize hv : View.ld x (Rect.unit (s := S8x4096) ![0, 0] ![1, 4096] inb_S8x4096_S1x4096_0_0) = v0
  generalize hw : View.ld x (Rect.unit (s := S8x4096) ![1, 0] ![1, 4096] inb_S8x4096_S1x4096_1_0) = v1
  have e0 : v0 (ix2 0 j) = x (ix2 0 j) := by
    subst hv
    pointwise
  have e1 : v1 (ix2 0 j) = x (ix2 1 j) := by
    subst hw
    pointwise
  rw [← e0, ← e1]
  rfl

/-- Column `j` of a point's tile, as a column of the array. -/
def colAt (t : Fin grid0.N) (j : Fin 4096) : Fin 65536 := ⟨t.val * 4096 + j.val, by
  have ht : t.val < 16 := t.isLt
  omega⟩

theorem coord_0 (t : Fin grid0.N) : (grid0.coords t 0).val = t.val := by
  revert t
  decide +kernel

theorem transform_eq (t : Fin grid0.N) : cc0_transform_0 (grid0.coords t) = ![0, t.val] := by
  have ht : t.val < 16 := t.isLt
  show ![0, (BitVec.ofNat 32 (grid0.coords t 0).val).toNat] = _
  rw [coord_0, BitVec.toNat_ofNat, Nat.mod_eq_of_lt (by omega)]

variable (hO : Ok m)

theorem index_0 (t : Fin (cfgM m hO).N) : ((cfgM m hO).win (0 : Fin 2)).index t = ![0, t.val] := transform_eq t
theorem index_1 (t : Fin (cfgM m hO).N) : ((cfgM m hO).win (1 : Fin 2)).index t = ![0, t.val] := transform_eq t

theorem block_0 (c : Dev nD) (t : Fin (cfgM m hO).N) (s : Fin 8) (j : Fin 4096) :
    iblk m hO c (0 : Fin 2) t (ix2 s j) = m ((c.tc : Thread nD τ).loc main_arg1) (ix2 s (colAt t j)) := by
  show V m c main_arg1 ((((cfgM m hO).win (0 : Fin 2)).rect t).emb (ix2 s j)) = _
  rw [V_main_arg1]
  refine congrArg (m _) (funext fun a => Fin.ext ?_)
  refine (Window.rect_emb_val ((cfgM m hO).win (0 : Fin 2)) t (ix2 s j) a rfl).trans ?_
  rw [index_0]
  fin_cases a
  · exact Nat.zero_add _
  · rfl

/-- Every block of the output array is some tile's. -/
theorem covers : ((cfgM m hO).win (1 : Fin 2)).Covers :=
  ((cfgM m hO).win (1 : Fin 2)).covers_of_index_surj rfl (fun a => by fin_cases a <;> exact Nat.succ_pos _) fun β => by
    have hb : (β 1).val < 16 := Nat.lt_of_lt_of_eq (β 1).isLt (show (65536 + 4096 - 1) / 4096 = 16 by decide)
    refine ⟨⟨(β 1).val, hb⟩, fun a => ?_⟩
    rw [index_1]
    fin_cases a
    · have hb : (β 0).val < 1 := Nat.lt_of_lt_of_eq (β 0).isLt (show (8 + 8 - 1) / 8 = 1 by decide)
      show 0 = (β 0).val
      omega
    · rfl

theorem emb_1 (t : Fin (cfgM m hO).N) (s : Fin 8) (j : Fin 4096) :
    (((cfgM m hO).win (1 : Fin 2)).blk t).view.emb (ix2 s j) = ix2 s (colAt t j) := by
  funext a
  apply Fin.ext
  refine (Window.rect_emb_val ((cfgM m hO).win (1 : Fin 2)) t (ix2 s j) a rfl).trans ?_
  rw [index_1]
  fin_cases a
  · exact Nat.zero_add _
  · rfl

/-- The reference's function of the arguments, at the launch memory. -/
def positionsOf (c : Dev nD) : IVec S8x65536 32 :=
  positions (m ((c.tc : Thread nD τ).loc main_arg0)) (m ((c.tc : Thread nD τ).loc main_arg1))

/-- The prefetched table is the first argument. -/
theorem table_eq (c : Dev nD) : (tbl m 0 : IVec S128 32) = m ((c.tc : Thread nD τ).loc main_arg0) :=
  (V_pre m c 0).symm.trans (V_main_arg0 m c)

/-- A point's tile of the output. -/
@[irreducible] def tileAt (c : Dev nD) (t : Fin (cfgM m hO).N) : IVec S8x4096 32 := outsAt0 m hO c t

theorem after_1 (c : Dev nD) (t : Fin (cfgM m hO).N) : (dats m hO 0 c).after (1 : Fin 2) t = tileAt m hO c t := by
  unfold tileAt
  exact after0_1 m hO c t

theorem tileAt_apply (c : Dev nD) (t : Fin (cfgM m hO).N) (s : Fin 8) (j : Fin 4096) :
    tileAt m hO c t (ix2 s j) = positionsOf m c (ix2 s (colAt t j)) := by
  unfold tileAt outsAt0
  refine (body_apply c _ _ _ _ _ _ _ s j).trans ?_
  refine Eq.trans ?_ (positions_apply _ _ s (colAt t j)).symm
  rw [block_0, block_0, table_eq m c]

attribute [local irreducible] positionsOf

/-- The output array after the launch. -/
theorem final (c : Dev nD) : (dats m hO 0 c).arrAt (1 : Fin 2) (cfgM m hO).N = positionsOf m c := by
  refine (dats m hO 0 c).arrAt_eq_of_covers (1 : Fin 2) _ (covers m hO) fun t _ y => ?_
  have key : ∀ y : S8x4096.Idx, tileAt m hO c t y = positionsOf m c ((((cfgM m hO).win (1 : Fin 2)).blk t).view.emb y) := fun y => by
    have hy : y = ix2 (y 0) (y 1) := by funext a; fin_cases a <;> rfl
    rw [hy]
    exact (tileAt_apply m hO c t (y 0) (y 1)).trans (congrArg (positionsOf m c) (emb_1 m hO t (y 0) (y 1)).symm)
  rw [after_1]
  exact key y

include hO in
/-- What every run ends in: the reference's function of the arguments, which are unchanged. -/
theorem run_ends (g : Dev nD → PrngReg) : θ_run defs (onTc (τ := τ) (main (F := Ideal))) ⟨m, fun _ => 0, g⟩ (fun r => ∀ c : Dev nD,
    r.2.mem ((c.tc : Thread nD τ).loc main_v0) = positionsOf m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c => ⟨((h c).1 (1 : Fin 2)).trans (final m hO c),
    ((h c).2 main_arg0 (by decide : main_arg0 ∈ Pipeline.restRefs sig spec0)).trans (V_main_arg0 m c),
    ((h c).1 (0 : Fin 2)).trans (((dats m hO 0 c).arrAt_in (0 : Fin 2) rfl _).trans ((A_eq m hO c 0).trans (V_main_arg1 m c)))⟩)
    (run_main m g hO)

end Cert.Positions

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_tables_in_range
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Pre_router_finite
public import proofs.«01_k».proof.Proof.Kept
public import proofs.«01_k».proof.Proof.Final
public import proofs.«01_k».proof.Proof.Projection
public import proofs.«01_k».proof.Proof.Residual
public import proofs.«01_k».proof.Proof.Router
public import proofs.«01_k».proof.Proof.Positions
public import Idealize.ShloMosaic.Lib.Claim

@[expose] public section

set_option maxRecDepth 16384

noncomputable section

namespace Cert.Proof

open Idealize.ShloMosaic Idealize.ShloMosaic.TcCoe Idealize.SL.Sem
open Cert.Experts

attribute [local instance] Cert.Kernel.Gen.facts Cert.KernelIdeal.Gen.facts Cert.ReferenceIdeal.Gen.facts Cert.Pre_tables_in_range.Gen.facts
  Cert.Kernel2.Gen.facts Cert.Kernel2Ideal.Gen.facts Cert.Reference2Ideal.Gen.facts
  Cert.Kernel3.Gen.facts Cert.Kernel3Ideal.Gen.facts Cert.Reference3Ideal.Gen.facts
  Cert.Kernel4.Gen.facts Cert.Kernel4Ideal.Gen.facts Cert.Reference4Ideal.Gen.facts Cert.Pre_router_finite.Gen.facts
  Cert.Kernel5.Gen.facts Cert.Kernel5Ideal.Gen.facts Cert.Reference5Ideal.Gen.facts

/-- The precondition puts the kernel's tables in range. -/
theorem ranged_of_pre (m : (ℓ : Loc Cert.Kernel.nD Cert.Kernel.τ Cert.Kernel.sig) → Buf (Elt Bits) ℓ) (h : Cert.Pre_Kernel m) : Ranged m := by
  unfold Ranged tables
  exact inRange_of_pre (h 0)

/-- The same over the extended reals. -/
theorem ranged_of_pre_ideal (m : (ℓ : Loc Cert.Kernel.nD Cert.Kernel.τ Cert.Kernel.sig) → Buf (Elt Ideal) ℓ) (h : Cert.Pre_KernelIdeal m) :
    Ranged m := by
  unfold Ranged tables
  exact inRange_of_pre (h 0)

theorem frame_kernel : Cert.quiescent_Kernel := fun m g h =>
  (θ_run _ _ _).mono (fun _ hr => ⟨fun c => (hr.1 c).2, hr.2⟩) (run_ends m g (ranged_of_pre m h))

theorem frame_kernelIdeal : Cert.quiescent_KernelIdeal := fun m g h => by
  rw [same_run]
  exact (θ_run _ _ _).mono (fun _ hr => ⟨fun c => (hr.1 c).2, hr.2⟩) (run_ends (F := Ideal) m g (ranged_of_pre_ideal m h))

/-- The reference declares no semaphore. -/
theorem frame_referenceIdeal : Cert.quiescent_ReferenceIdeal := fun m g _ =>
  (θ_run _ _ _).mono (fun _ hr => ⟨fun c => (hr c).2, funext fun s => nomatch s⟩) (Cert.ReferenceIdeal.Value.run (F := Ideal) m g)

theorem equal_results : Cert.algebraic_KernelIdeal_ReferenceIdeal := fun m g m' g' h hagree => by
  refine ⟨fun c => denseOf m c, ?_, ?_⟩
  · rw [same_run]
    exact (θ_run _ _ _).mono (fun _ hr c => ⟨(hr.1 c).1.trans (final m (ranged_of_pre_ideal m h) c), (hr.1 c).2⟩)
      (run_ends (F := Ideal) m g (ranged_of_pre_ideal m h))
  · refine (θ_run _ _ _).mono (fun _ hr c => ⟨(hr c).1.trans ?_, (hr c).2⟩) (Cert.ReferenceIdeal.Value.run (F := Ideal) m' g')
    refine (out_eq_dense m' c).trans ?_
    obtain ⟨e0, e1, e2, e3, e4, e5, e6⟩ := hagree c
    rw [e0, e1, e2, e3, e4, e5, e6]
    rfl

theorem frame_kernel2 : Cert.quiescent_Kernel2 := fun m g _ => Cert.Kernel2.Gen.frame m g

theorem frame_kernel2Ideal : Cert.quiescent_Kernel2Ideal := fun m g _ => Cert.Kernel2Ideal.Gen.frame m g

/-- The projection's reference declares no semaphore. -/
theorem frame_reference2Ideal : Cert.quiescent_Reference2Ideal := fun m g _ =>
  (θ_run _ _ _).mono (fun _ hr => ⟨fun c => (hr c).2, funext fun s => nomatch s⟩) (Cert.Reference2Ideal.Value.run (F := Ideal) m g)

theorem equal_projections : Cert.algebraic_Kernel2Ideal_Reference2Ideal := fun m g m' g' _ hagree => by
  refine ⟨fun c => Cert.Projection.projectedOf m c, ?_, ?_⟩
  · exact (θ_run _ _ _).mono (fun _ hr c => ⟨(hr c).1.trans (Cert.Projection.final m c), (hr c).2⟩)
      (Cert.Kernel2Ideal.Value.run_blocks (F := Ideal) m g)
  · refine (θ_run _ _ _).mono (fun _ hr c => ⟨(hr c).1.trans ?_, (hr c).2⟩) (Cert.Projection.projected_run m' g')
    obtain ⟨e0, e1, e2⟩ := hagree c
    rw [e0, e1, e2]
    rfl

theorem frame_kernel3 : Cert.quiescent_Kernel3 := fun m g _ => Cert.Kernel3.Gen.frame m g

theorem frame_kernel3Ideal : Cert.quiescent_Kernel3Ideal := fun m g _ => Cert.Kernel3Ideal.Gen.frame m g

/-- The residual sum's reference declares no semaphore. -/
theorem frame_reference3Ideal : Cert.quiescent_Reference3Ideal := fun m g _ =>
  (θ_run _ _ _).mono (fun _ hr => ⟨fun c => (hr c).2, funext fun s => nomatch s⟩) (Cert.Reference3Ideal.Value.run (F := Ideal) m g)

theorem equal_residuals : Cert.algebraic_Kernel3Ideal_Reference3Ideal := fun m g m' g' _ hagree => by
  refine ⟨fun c => Cert.Residual.residualOf m c, ?_, ?_⟩
  · exact (θ_run _ _ _).mono (fun _ hr c => ⟨(hr c).1.trans (Cert.Residual.final m c), (hr c).2.2.2.2⟩)
      (Cert.Kernel3Ideal.Value.run_blocks (F := Ideal) m g)
  · refine (θ_run _ _ _).mono (fun _ hr c => ⟨(hr c).1.trans ?_, (hr c).2⟩) (Cert.Residual.residual_run m' g')
    obtain ⟨e0, e1, e2, e3, -⟩ := hagree c
    rw [e0, e1, e2, e3]
    rfl

theorem frame_kernel4 : Cert.quiescent_Kernel4 := fun m g _ => Cert.Kernel4.Gen.frame m g

theorem frame_kernel4Ideal : Cert.quiescent_Kernel4Ideal := fun m g _ => Cert.Kernel4Ideal.Gen.frame m g

/-- The router's reference declares no semaphore. -/
theorem frame_reference4Ideal : Cert.quiescent_Reference4Ideal := fun m g _ =>
  (θ_run _ _ _).mono (fun _ hr => ⟨fun c => (hr c).2, funext fun s => nomatch s⟩) (Cert.Reference4Ideal.Value.run (F := Ideal) m g)

theorem equal_routed : Cert.algebraic_Kernel4Ideal_Reference4Ideal_pre_router_finite := fun m g m' g' h hagree => by
  refine ⟨fun c => Cert.Router.routedOfArgs m c, ?_, ?_⟩
  · exact (θ_run _ _ _).mono
      (fun _ hr c => ⟨(hr c).2.1.trans (Cert.Router.final m c (Cert.Router.finite_of_pre (h c))), (hr c).2.2.2.2⟩)
      (Cert.Kernel4Ideal.Value.run_blocks (F := Ideal) m g)
  · refine (θ_run _ _ _).mono (fun _ hr c => ⟨(hr c).1.trans ?_, (hr c).2⟩) (Cert.Router.routed_run m' g')
    obtain ⟨e0, e1, e2, e3, e4, e5, e6, -⟩ := hagree c
    rw [e0, e1, e2, e3, e4, e5, e6]
    rfl

/-- No block of the positions' call is named by its table. -/
theorem frame_kernel5 : Cert.quiescent_Kernel5 := fun m g _ => Cert.Kernel5.Gen.frame m g trivial

theorem frame_kernel5Ideal : Cert.quiescent_Kernel5Ideal := fun m g _ => Cert.Kernel5Ideal.Gen.frame m g trivial

/-- The positions' reference declares no semaphore. -/
theorem frame_reference5Ideal : Cert.quiescent_Reference5Ideal := fun m g _ =>
  (θ_run _ _ _).mono (fun _ hr => ⟨fun c => (hr c).2, funext fun s => nomatch s⟩) (Cert.Reference5Ideal.Value.run (F := Ideal) m g)

theorem equal_positions : Cert.algebraic_Kernel5Ideal_Reference5Ideal := fun m g m' g' _ hagree => by
  refine ⟨fun c => Cert.Positions.positionsOf m c, Cert.Positions.run_ends m trivial g, ?_⟩
  refine (θ_run _ _ _).mono (fun _ hr c => ⟨(hr c).1.trans ?_, (hr c).2⟩) (Cert.Positions.positions_run m' g')
  obtain ⟨e0, e1⟩ := hagree c
  rw [e0, e1]
  rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_tables_in_range.Gen.facts,
  Cert.Pre_router_finite.Gen.facts,
  frame_kernel, frame_kernelIdeal, frame_referenceIdeal, frame_kernel2, frame_kernel2Ideal, frame_reference2Ideal,
  frame_kernel3, frame_kernel3Ideal, frame_reference3Ideal, frame_kernel4, frame_kernel4Ideal,
  fun m g _ => frame_kernel4Ideal m g trivial, frame_reference4Ideal, fun m g _ => frame_reference4Ideal m g trivial,
  frame_kernel5, frame_kernel5Ideal, frame_reference5Ideal,
  trivial, equal_results, trivial, equal_projections, trivial, equal_residuals, trivial, equal_routed,
  trivial, equal_positions⟩

end Cert.Proof

end
